-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S256x1024 : Shape := ⟨2, ![256, 1024]⟩
abbrev S2x4 : Shape := ⟨2, ![2, 4]⟩
abbrev S16x8x128 : Shape := ⟨3, ![16, 8, 128]⟩
abbrev S16 : Shape := ⟨1, ![16]⟩
abbrev S_ : Shape := ⟨0, ![]⟩
abbrev S256x256 : Shape := ⟨2, ![256, 256]⟩
abbrev S1x1 : Shape := ⟨2, ![1, 1]⟩
abbrev S1x256x1024 : Shape := ⟨3, ![1, 256, 1024]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 20
  | .smem => 0
  | _ => 0

abbrev bufTy : (tb : Table) → Fin (tcTables nBuf tb) → BufTy
  | .hbm, ⟨0, _⟩ => ⟨S4096x256, .bf16⟩
  | .hbm, ⟨1, _⟩ => ⟨S256x8192, .bf16⟩
  | .hbm, ⟨2, _⟩ => ⟨S256x8192, .f32⟩
  | .local _ .vmem, ⟨0, _⟩ => ⟨S4096x256, .bf16⟩
  | .local _ .vmem, ⟨1, _⟩ => ⟨S256x8192, .bf16⟩
  | .local _ .vmem, ⟨2, _⟩ => ⟨S256x8192, .f32⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S16x8x128, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => false
  | _ => false

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  (ofTc nBuf bufTy 10 51 bufScoped semScoped dmaSemScoped tileCredit tileCredit_eq_zero tileCredit_pos).withBarriers [(0, 9)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_scratch8 : Ref sig .tc := ⟨.vmem, 11, rfl⟩
abbrev cc0_scratch9 : Ref sig .tc := ⟨.vmem, 12, rfl⟩
abbrev cc0_scratch10 : Ref sig .tc := ⟨.vmem, 13, rfl⟩
abbrev cc0_scratch11 : Ref sig .tc := ⟨.vmem, 14, rfl⟩
abbrev cc0_scratch12 : Ref sig .tc := ⟨.vmem, 15, rfl⟩
abbrev cc0_scratch13 : Ref sig .tc := ⟨.vmem, 16, rfl⟩
abbrev cc0_scratch14 : Ref sig .tc := ⟨.vmem, 17, rfl⟩
abbrev cc0_scratch15 : Ref sig .tc := ⟨.vmem, 18, rfl⟩
abbrev cc0_scratch19 : Ref sig .tc := ⟨.vmem, 19, rfl⟩
abbrev cc0_sem0_0 : DmaSem sig := 0
abbrev cc0_sem1_0 : DmaSem sig := 1
abbrev cc0_sem2_0 : DmaSem sig := 2
abbrev barrier0 : Sem sig := 9

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_11 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v13 : BitVec 32 := Scalar.addi v2 c32_i32
  let c1_i32_10 : BitVec 32 := 1#32
  let v14 : BitVec 32 := Scalar.subi v13 c1_i32_10
  let v15 : BitVec 32 := Scalar.subi v14 c0_i32_11
  let c16_i32_12 : BitVec 32 := 16#32
  let v16 : BitVec 32 := Scalar.remsi v15 c16_i32_12
  let c256_i32 : BitVec 32 := 256#32
  let v17 : BitVec 32 := Scalar.muli v16 c256_i32
  let v18 : Index := Scalar.indexCast v17
  let c0 : Index := 0#32
  ![v18.toNat, 0]
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_21 : BitVec 32 := 1#32
  let v28 : BitVec 32 := Scalar.muli v7 c1_i32_21
  let v29 : BitVec 32 := Scalar.addi c0_i32_22 v28
  v29.toNat
def k0_off2 (d0 : Dev nD) (c0_i32_24 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_23 : BitVec 32 := 1#32
  let v34 : BitVec 32 := Scalar.addi v2 c1_i32_23
  let v35 : BitVec 32 := Scalar.addi v34 c0_i32_24
  let c16_i32_25 : BitVec 32 := 16#32
  let v36 : BitVec 32 := Scalar.remsi v35 c16_i32_25
  let c256_i32_26 : BitVec 32 := 256#32
  let v37 : BitVec 32 := Scalar.muli v36 c256_i32_26
  let v38 : Index := Scalar.indexCast v37
  let c0_27 : Index := 0#32
  ![v38.toNat, 0]
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_36 : BitVec 32 := 1#32
  let v48 : BitVec 32 := Scalar.muli v5 c1_i32_36
  let v49 : BitVec 32 := Scalar.addi c0_i32_37 v48
  v49.toNat
def k0_dev5 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_52 : BitVec 32 := 1#32
  let v69 : BitVec 32 := Scalar.muli v7 c1_i32_52
  let v70 : BitVec 32 := Scalar.addi c0_i32_53 v69
  v70.toNat
def k0_dev6 (d0 : Dev nD) : Nat :=
  let c0_i32_68 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_67 : BitVec 32 := 1#32
  let v89 : BitVec 32 := Scalar.muli v5 c1_i32_67
  let v90 : BitVec 32 := Scalar.addi c0_i32_68 v89
  v90.toNat
def k0_dev7 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_83 : BitVec 32 := 1#32
  let v110 : BitVec 32 := Scalar.muli v7 c1_i32_83
  let v111 : BitVec 32 := Scalar.addi c0_i32_84 v110
  v111.toNat
def k0_dev8 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_98 : BitVec 32 := 1#32
  let v130 : BitVec 32 := Scalar.muli v5 c1_i32_98
  let v131 : BitVec 32 := Scalar.addi c0_i32_99 v130
  v131.toNat
def k0_dev9 (d0 : Dev nD) : Nat :=
  let c0_i32_114 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_113 : BitVec 32 := 1#32
  let v151 : BitVec 32 := Scalar.muli v7 c1_i32_113
  let v152 : BitVec 32 := Scalar.addi c0_i32_114 v151
  v152.toNat
def k0_dev10 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_128 : BitVec 32 := 1#32
  let v171 : BitVec 32 := Scalar.muli v5 c1_i32_128
  let v172 : BitVec 32 := Scalar.addi c0_i32_129 v171
  v172.toNat
def k0_dev11 (d0 : Dev nD) : Nat :=
  let c0_i32_158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_157 : BitVec 32 := 1#32
  let v203 : BitVec 32 := Scalar.muli v5 c1_i32_157
  let v204 : BitVec 32 := Scalar.addi c0_i32_158 v203
  v204.toNat
def k0_dev12 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_167 : BitVec 32 := 1#32
  let v207 : BitVec 32 := Scalar.muli v7 c1_i32_167
  let v208 : BitVec 32 := Scalar.addi c0_i32_168 v207
  v208.toNat
def k0_dev13 (d0 : Dev nD) : Nat :=
  let c0_i32_196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_195 : BitVec 32 := 1#32
  let v238 : BitVec 32 := Scalar.muli v7 c1_i32_195
  let v239 : BitVec 32 := Scalar.addi c0_i32_196 v238
  v239.toNat
def k0_dev14 (d0 : Dev nD) : Nat :=
  let c0_i32_206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_205 : BitVec 32 := 1#32
  let v242 : BitVec 32 := Scalar.muli v5 c1_i32_205
  let v243 : BitVec 32 := Scalar.addi c0_i32_206 v242
  v243.toNat
def k0_dev15 (d0 : Dev nD) : Nat :=
  let c0_i32_235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_234 : BitVec 32 := 1#32
  let v274 : BitVec 32 := Scalar.muli v5 c1_i32_234
  let v275 : BitVec 32 := Scalar.addi c0_i32_235 v274
  v275.toNat
def k0_dev16 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_244 : BitVec 32 := 1#32
  let v278 : BitVec 32 := Scalar.muli v7 c1_i32_244
  let v279 : BitVec 32 := Scalar.addi c0_i32_245 v278
  v279.toNat
def k0_dev17 (d0 : Dev nD) : Nat :=
  let c0_i32_273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_272 : BitVec 32 := 1#32
  let v309 : BitVec 32 := Scalar.muli v7 c1_i32_272
  let v310 : BitVec 32 := Scalar.addi c0_i32_273 v309
  v310.toNat
def k0_dev18 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_282 : BitVec 32 := 1#32
  let v313 : BitVec 32 := Scalar.muli v5 c1_i32_282
  let v314 : BitVec 32 := Scalar.addi c0_i32_283 v313
  v314.toNat
def k0_dev19 (d0 : Dev nD) : Nat :=
  let c0_i32_312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_311 : BitVec 32 := 1#32
  let v345 : BitVec 32 := Scalar.muli v5 c1_i32_311
  let v346 : BitVec 32 := Scalar.addi c0_i32_312 v345
  v346.toNat
def k0_dev20 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_321 : BitVec 32 := 1#32
  let v349 : BitVec 32 := Scalar.muli v7 c1_i32_321
  let v350 : BitVec 32 := Scalar.addi c0_i32_322 v349
  v350.toNat
def k0_dev21 (d0 : Dev nD) : Nat :=
  let c0_i32_350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_349 : BitVec 32 := 1#32
  let v380 : BitVec 32 := Scalar.muli v7 c1_i32_349
  let v381 : BitVec 32 := Scalar.addi c0_i32_350 v380
  v381.toNat
def k0_dev22 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_359 : BitVec 32 := 1#32
  let v384 : BitVec 32 := Scalar.muli v5 c1_i32_359
  let v385 : BitVec 32 := Scalar.addi c0_i32_360 v384
  v385.toNat
def k0_dev23 (d0 : Dev nD) : Nat :=
  let c0_i32_389 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_388 : BitVec 32 := 1#32
  let v416 : BitVec 32 := Scalar.muli v5 c1_i32_388
  let v417 : BitVec 32 := Scalar.addi c0_i32_389 v416
  v417.toNat
def k0_dev24 (d0 : Dev nD) : Nat :=
  let c0_i32_399 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_398 : BitVec 32 := 1#32
  let v420 : BitVec 32 := Scalar.muli v7 c1_i32_398
  let v421 : BitVec 32 := Scalar.addi c0_i32_399 v420
  v421.toNat
def k0_dev25 (d0 : Dev nD) : Nat :=
  let c0_i32_427 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_426 : BitVec 32 := 1#32
  let v451 : BitVec 32 := Scalar.muli v7 c1_i32_426
  let v452 : BitVec 32 := Scalar.addi c0_i32_427 v451
  v452.toNat
def k0_dev26 (d0 : Dev nD) : Nat :=
  let c0_i32_437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_436 : BitVec 32 := 1#32
  let v455 : BitVec 32 := Scalar.muli v5 c1_i32_436
  let v456 : BitVec 32 := Scalar.addi c0_i32_437 v455
  v456.toNat
def k0_dev27 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_465 : BitVec 32 := 1#32
  let v487 : BitVec 32 := Scalar.muli v5 c1_i32_465
  let v488 : BitVec 32 := Scalar.addi c0_i32_466 v487
  v488.toNat
def k0_dev28 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_475 : BitVec 32 := 1#32
  let v491 : BitVec 32 := Scalar.muli v7 c1_i32_475
  let v492 : BitVec 32 := Scalar.addi c0_i32_476 v491
  v492.toNat
def k0_dev29 (d0 : Dev nD) : Nat :=
  let c0_i32_504 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_503 : BitVec 32 := 1#32
  let v522 : BitVec 32 := Scalar.muli v7 c1_i32_503
  let v523 : BitVec 32 := Scalar.addi c0_i32_504 v522
  v523.toNat
def k0_dev30 (d0 : Dev nD) : Nat :=
  let c0_i32_514 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_513 : BitVec 32 := 1#32
  let v526 : BitVec 32 := Scalar.muli v5 c1_i32_513
  let v527 : BitVec 32 := Scalar.addi c0_i32_514 v526
  v527.toNat
def k0_dev31 (d0 : Dev nD) : Nat :=
  let c0_i32_543 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_542 : BitVec 32 := 1#32
  let v558 : BitVec 32 := Scalar.muli v5 c1_i32_542
  let v559 : BitVec 32 := Scalar.addi c0_i32_543 v558
  v559.toNat
def k0_dev32 (d0 : Dev nD) : Nat :=
  let c0_i32_553 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_552 : BitVec 32 := 1#32
  let v562 : BitVec 32 := Scalar.muli v7 c1_i32_552
  let v563 : BitVec 32 := Scalar.addi c0_i32_553 v562
  v563.toNat
def k0_dev33 (d0 : Dev nD) : Nat :=
  let c0_i32_581 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_580 : BitVec 32 := 1#32
  let v593 : BitVec 32 := Scalar.muli v7 c1_i32_580
  let v594 : BitVec 32 := Scalar.addi c0_i32_581 v593
  v594.toNat
def k0_dev34 (d0 : Dev nD) : Nat :=
  let c0_i32_591 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_590 : BitVec 32 := 1#32
  let v597 : BitVec 32 := Scalar.muli v5 c1_i32_590
  let v598 : BitVec 32 := Scalar.addi c0_i32_591 v597
  v598.toNat
def k0_dev35 (d0 : Dev nD) : Nat :=
  let c0_i32_620 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_619 : BitVec 32 := 1#32
  let v629 : BitVec 32 := Scalar.muli v5 c1_i32_619
  let v630 : BitVec 32 := Scalar.addi c0_i32_620 v629
  v630.toNat
def k0_dev36 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_629 : BitVec 32 := 1#32
  let v633 : BitVec 32 := Scalar.muli v7 c1_i32_629
  let v634 : BitVec 32 := Scalar.addi c0_i32_630 v633
  v634.toNat
def k0_dev37 (d0 : Dev nD) : Nat :=
  let c0_i32_658 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_657 : BitVec 32 := 1#32
  let v664 : BitVec 32 := Scalar.muli v7 c1_i32_657
  let v665 : BitVec 32 := Scalar.addi c0_i32_658 v664
  v665.toNat
def k0_dev38 (d0 : Dev nD) : Nat :=
  let c0_i32_668 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_667 : BitVec 32 := 1#32
  let v668 : BitVec 32 := Scalar.muli v5 c1_i32_667
  let v669 : BitVec 32 := Scalar.addi c0_i32_668 v668
  v669.toNat
def k0_dev39 (d0 : Dev nD) : Nat :=
  let c0_i32_697 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_696 : BitVec 32 := 1#32
  let v700 : BitVec 32 := Scalar.muli v5 c1_i32_696
  let v701 : BitVec 32 := Scalar.addi c0_i32_697 v700
  v701.toNat
def k0_dev40 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_706 : BitVec 32 := 1#32
  let v704 : BitVec 32 := Scalar.muli v7 c1_i32_706
  let v705 : BitVec 32 := Scalar.addi c0_i32_707 v704
  v705.toNat
def k0_dev41 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_734 : BitVec 32 := 1#32
  let v735 : BitVec 32 := Scalar.muli v7 c1_i32_734
  let v736 : BitVec 32 := Scalar.addi c0_i32_735 v735
  v736.toNat
def k0_dev42 (d0 : Dev nD) : Nat :=
  let c0_i32_745 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_744 : BitVec 32 := 1#32
  let v739 : BitVec 32 := Scalar.muli v5 c1_i32_744
  let v740 : BitVec 32 := Scalar.addi c0_i32_745 v739
  v740.toNat
def k0_dev43 (d0 : Dev nD) : Nat :=
  let c0_i32_774 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_773 : BitVec 32 := 1#32
  let v771 : BitVec 32 := Scalar.muli v5 c1_i32_773
  let v772 : BitVec 32 := Scalar.addi c0_i32_774 v771
  v772.toNat
def k0_dev44 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_783 : BitVec 32 := 1#32
  let v775 : BitVec 32 := Scalar.muli v7 c1_i32_783
  let v776 : BitVec 32 := Scalar.addi c0_i32_784 v775
  v776.toNat
def k0_dev45 (d0 : Dev nD) : Nat :=
  let c0_i32_812 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_811 : BitVec 32 := 1#32
  let v806 : BitVec 32 := Scalar.muli v7 c1_i32_811
  let v807 : BitVec 32 := Scalar.addi c0_i32_812 v806
  v807.toNat
def k0_dev46 (d0 : Dev nD) : Nat :=
  let c0_i32_822 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_821 : BitVec 32 := 1#32
  let v810 : BitVec 32 := Scalar.muli v5 c1_i32_821
  let v811 : BitVec 32 := Scalar.addi c0_i32_822 v810
  v811.toNat
def k0_dev47 (d0 : Dev nD) : Nat :=
  let c0_i32_851 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_850 : BitVec 32 := 1#32
  let v842 : BitVec 32 := Scalar.muli v5 c1_i32_850
  let v843 : BitVec 32 := Scalar.addi c0_i32_851 v842
  v843.toNat
def k0_dev48 (d0 : Dev nD) : Nat :=
  let c0_i32_861 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_860 : BitVec 32 := 1#32
  let v846 : BitVec 32 := Scalar.muli v7 c1_i32_860
  let v847 : BitVec 32 := Scalar.addi c0_i32_861 v846
  v847.toNat
def k0_dev49 (d0 : Dev nD) : Nat :=
  let c0_i32_889 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_888 : BitVec 32 := 1#32
  let v877 : BitVec 32 := Scalar.muli v7 c1_i32_888
  let v878 : BitVec 32 := Scalar.addi c0_i32_889 v877
  v878.toNat
def k0_dev50 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_898 : BitVec 32 := 1#32
  let v881 : BitVec 32 := Scalar.muli v5 c1_i32_898
  let v882 : BitVec 32 := Scalar.addi c0_i32_899 v881
  v882.toNat
def k0_dev51 (d0 : Dev nD) : Nat :=
  let c0_i32_928 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_927 : BitVec 32 := 1#32
  let v913 : BitVec 32 := Scalar.muli v5 c1_i32_927
  let v914 : BitVec 32 := Scalar.addi c0_i32_928 v913
  v914.toNat
def k0_dev52 (d0 : Dev nD) : Nat :=
  let c0_i32_938 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_937 : BitVec 32 := 1#32
  let v917 : BitVec 32 := Scalar.muli v7 c1_i32_937
  let v918 : BitVec 32 := Scalar.addi c0_i32_938 v917
  v918.toNat
def k0_dev53 (d0 : Dev nD) : Nat :=
  let c0_i32_966 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_965 : BitVec 32 := 1#32
  let v948 : BitVec 32 := Scalar.muli v7 c1_i32_965
  let v949 : BitVec 32 := Scalar.addi c0_i32_966 v948
  v949.toNat
def k0_dev54 (d0 : Dev nD) : Nat :=
  let c0_i32_976 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_975 : BitVec 32 := 1#32
  let v952 : BitVec 32 := Scalar.muli v5 c1_i32_975
  let v953 : BitVec 32 := Scalar.addi c0_i32_976 v952
  v953.toNat
def k0_dev55 (d0 : Dev nD) : Nat :=
  let c0_i32_1005 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1004 : BitVec 32 := 1#32
  let v984 : BitVec 32 := Scalar.muli v5 c1_i32_1004
  let v985 : BitVec 32 := Scalar.addi c0_i32_1005 v984
  v985.toNat
def k0_dev56 (d0 : Dev nD) : Nat :=
  let c0_i32_1015 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1014 : BitVec 32 := 1#32
  let v988 : BitVec 32 := Scalar.muli v7 c1_i32_1014
  let v989 : BitVec 32 := Scalar.addi c0_i32_1015 v988
  v989.toNat
def k0_dev57 (d0 : Dev nD) : Nat :=
  let c0_i32_1043 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1042 : BitVec 32 := 1#32
  let v1019 : BitVec 32 := Scalar.muli v7 c1_i32_1042
  let v1020 : BitVec 32 := Scalar.addi c0_i32_1043 v1019
  v1020.toNat
def k0_dev58 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1052 : BitVec 32 := 1#32
  let v1023 : BitVec 32 := Scalar.muli v5 c1_i32_1052
  let v1024 : BitVec 32 := Scalar.addi c0_i32_1053 v1023
  v1024.toNat
def k0_dev59 (d0 : Dev nD) : Nat :=
  let c0_i32_1081 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1080 : BitVec 32 := 1#32
  let v1055 : BitVec 32 := Scalar.muli v5 c1_i32_1080
  let v1056 : BitVec 32 := Scalar.addi c0_i32_1081 v1055
  v1056.toNat
def k0_dev60 (d0 : Dev nD) : Nat :=
  let c0_i32_1091 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1090 : BitVec 32 := 1#32
  let v1059 : BitVec 32 := Scalar.muli v7 c1_i32_1090
  let v1060 : BitVec 32 := Scalar.addi c0_i32_1091 v1059
  v1060.toNat
def k0_dev61 (d0 : Dev nD) : Nat :=
  let c0_i32_1119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1118 : BitVec 32 := 1#32
  let v1090 : BitVec 32 := Scalar.muli v7 c1_i32_1118
  let v1091 : BitVec 32 := Scalar.addi c0_i32_1119 v1090
  v1091.toNat
def k0_dev62 (d0 : Dev nD) : Nat :=
  let c0_i32_1129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1128 : BitVec 32 := 1#32
  let v1094 : BitVec 32 := Scalar.muli v5 c1_i32_1128
  let v1095 : BitVec 32 := Scalar.addi c0_i32_1129 v1094
  v1095.toNat
def k0_dev63 (d0 : Dev nD) : Nat :=
  let c0_i32_1158 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1157 : BitVec 32 := 1#32
  let v1126 : BitVec 32 := Scalar.muli v5 c1_i32_1157
  let v1127 : BitVec 32 := Scalar.addi c0_i32_1158 v1126
  v1127.toNat
def k0_dev64 (d0 : Dev nD) : Nat :=
  let c0_i32_1168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1167 : BitVec 32 := 1#32
  let v1130 : BitVec 32 := Scalar.muli v7 c1_i32_1167
  let v1131 : BitVec 32 := Scalar.addi c0_i32_1168 v1130
  v1131.toNat
def k0_dev65 (d0 : Dev nD) : Nat :=
  let c0_i32_1196 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1195 : BitVec 32 := 1#32
  let v1161 : BitVec 32 := Scalar.muli v7 c1_i32_1195
  let v1162 : BitVec 32 := Scalar.addi c0_i32_1196 v1161
  v1162.toNat
def k0_dev66 (d0 : Dev nD) : Nat :=
  let c0_i32_1206 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1205 : BitVec 32 := 1#32
  let v1165 : BitVec 32 := Scalar.muli v5 c1_i32_1205
  let v1166 : BitVec 32 := Scalar.addi c0_i32_1206 v1165
  v1166.toNat
def k0_dev67 (d0 : Dev nD) : Nat :=
  let c0_i32_1235 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1234 : BitVec 32 := 1#32
  let v1197 : BitVec 32 := Scalar.muli v5 c1_i32_1234
  let v1198 : BitVec 32 := Scalar.addi c0_i32_1235 v1197
  v1198.toNat
def k0_dev68 (d0 : Dev nD) : Nat :=
  let c0_i32_1245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1244 : BitVec 32 := 1#32
  let v1201 : BitVec 32 := Scalar.muli v7 c1_i32_1244
  let v1202 : BitVec 32 := Scalar.addi c0_i32_1245 v1201
  v1202.toNat
def k0_dev69 (d0 : Dev nD) : Nat :=
  let c0_i32_1273 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1272 : BitVec 32 := 1#32
  let v1232 : BitVec 32 := Scalar.muli v7 c1_i32_1272
  let v1233 : BitVec 32 := Scalar.addi c0_i32_1273 v1232
  v1233.toNat
def k0_dev70 (d0 : Dev nD) : Nat :=
  let c0_i32_1283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1282 : BitVec 32 := 1#32
  let v1236 : BitVec 32 := Scalar.muli v5 c1_i32_1282
  let v1237 : BitVec 32 := Scalar.addi c0_i32_1283 v1236
  v1237.toNat
def k0_dev71 (d0 : Dev nD) : Nat :=
  let c0_i32_1312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1311 : BitVec 32 := 1#32
  let v1268 : BitVec 32 := Scalar.muli v5 c1_i32_1311
  let v1269 : BitVec 32 := Scalar.addi c0_i32_1312 v1268
  v1269.toNat
def k0_dev72 (d0 : Dev nD) : Nat :=
  let c0_i32_1322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1321 : BitVec 32 := 1#32
  let v1272 : BitVec 32 := Scalar.muli v7 c1_i32_1321
  let v1273 : BitVec 32 := Scalar.addi c0_i32_1322 v1272
  v1273.toNat
def k0_dev73 (d0 : Dev nD) : Nat :=
  let c0_i32_1350 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1349 : BitVec 32 := 1#32
  let v1303 : BitVec 32 := Scalar.muli v7 c1_i32_1349
  let v1304 : BitVec 32 := Scalar.addi c0_i32_1350 v1303
  v1304.toNat
def k0_dev74 (d0 : Dev nD) : Nat :=
  let c0_i32_1360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1359 : BitVec 32 := 1#32
  let v1307 : BitVec 32 := Scalar.muli v5 c1_i32_1359
  let v1308 : BitVec 32 := Scalar.addi c0_i32_1360 v1307
  v1308.toNat
def k0_dev75 (d0 : Dev nD) : Nat :=
  let c0_i32_1388 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1387 : BitVec 32 := 1#32
  let v1339 : BitVec 32 := Scalar.muli v5 c1_i32_1387
  let v1340 : BitVec 32 := Scalar.addi c0_i32_1388 v1339
  v1340.toNat
def k0_dev76 (d0 : Dev nD) : Nat :=
  let c0_i32_1398 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1397 : BitVec 32 := 1#32
  let v1343 : BitVec 32 := Scalar.muli v7 c1_i32_1397
  let v1344 : BitVec 32 := Scalar.addi c0_i32_1398 v1343
  v1344.toNat
def k0_dev77 (d0 : Dev nD) : Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1425 : BitVec 32 := 1#32
  let v1374 : BitVec 32 := Scalar.muli v7 c1_i32_1425
  let v1375 : BitVec 32 := Scalar.addi c0_i32_1426 v1374
  v1375.toNat
def k0_dev78 (d0 : Dev nD) : Nat :=
  let c0_i32_1436 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1435 : BitVec 32 := 1#32
  let v1378 : BitVec 32 := Scalar.muli v5 c1_i32_1435
  let v1379 : BitVec 32 := Scalar.addi c0_i32_1436 v1378
  v1379.toNat
def k0_dev79 (d0 : Dev nD) : Nat :=
  let c0_i32_1465 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1464 : BitVec 32 := 1#32
  let v1410 : BitVec 32 := Scalar.muli v5 c1_i32_1464
  let v1411 : BitVec 32 := Scalar.addi c0_i32_1465 v1410
  v1411.toNat
def k0_dev80 (d0 : Dev nD) : Nat :=
  let c0_i32_1475 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1474 : BitVec 32 := 1#32
  let v1414 : BitVec 32 := Scalar.muli v7 c1_i32_1474
  let v1415 : BitVec 32 := Scalar.addi c0_i32_1475 v1414
  v1415.toNat
def k0_dev81 (d0 : Dev nD) : Nat :=
  let c0_i32_1503 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1502 : BitVec 32 := 1#32
  let v1445 : BitVec 32 := Scalar.muli v7 c1_i32_1502
  let v1446 : BitVec 32 := Scalar.addi c0_i32_1503 v1445
  v1446.toNat
def k0_dev82 (d0 : Dev nD) : Nat :=
  let c0_i32_1513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1512 : BitVec 32 := 1#32
  let v1449 : BitVec 32 := Scalar.muli v5 c1_i32_1512
  let v1450 : BitVec 32 := Scalar.addi c0_i32_1513 v1449
  v1450.toNat
def k0_dev83 (d0 : Dev nD) : Nat :=
  let c0_i32_1542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1541 : BitVec 32 := 1#32
  let v1481 : BitVec 32 := Scalar.muli v5 c1_i32_1541
  let v1482 : BitVec 32 := Scalar.addi c0_i32_1542 v1481
  v1482.toNat
def k0_dev84 (d0 : Dev nD) : Nat :=
  let c0_i32_1552 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1551 : BitVec 32 := 1#32
  let v1485 : BitVec 32 := Scalar.muli v7 c1_i32_1551
  let v1486 : BitVec 32 := Scalar.addi c0_i32_1552 v1485
  v1486.toNat
def k0_dev85 (d0 : Dev nD) : Nat :=
  let c0_i32_1580 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1579 : BitVec 32 := 1#32
  let v1516 : BitVec 32 := Scalar.muli v7 c1_i32_1579
  let v1517 : BitVec 32 := Scalar.addi c0_i32_1580 v1516
  v1517.toNat
def k0_dev86 (d0 : Dev nD) : Nat :=
  let c0_i32_1590 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1589 : BitVec 32 := 1#32
  let v1520 : BitVec 32 := Scalar.muli v5 c1_i32_1589
  let v1521 : BitVec 32 := Scalar.addi c0_i32_1590 v1520
  v1521.toNat
def k0_dev87 (d0 : Dev nD) : Nat :=
  let c0_i32_1619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1618 : BitVec 32 := 1#32
  let v1552 : BitVec 32 := Scalar.muli v5 c1_i32_1618
  let v1553 : BitVec 32 := Scalar.addi c0_i32_1619 v1552
  v1553.toNat
def k0_dev88 (d0 : Dev nD) : Nat :=
  let c0_i32_1629 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1628 : BitVec 32 := 1#32
  let v1556 : BitVec 32 := Scalar.muli v7 c1_i32_1628
  let v1557 : BitVec 32 := Scalar.addi c0_i32_1629 v1556
  v1557.toNat
def k0_dev89 (d0 : Dev nD) : Nat :=
  let c0_i32_1657 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1656 : BitVec 32 := 1#32
  let v1587 : BitVec 32 := Scalar.muli v7 c1_i32_1656
  let v1588 : BitVec 32 := Scalar.addi c0_i32_1657 v1587
  v1588.toNat
def k0_dev90 (d0 : Dev nD) : Nat :=
  let c0_i32_1667 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1666 : BitVec 32 := 1#32
  let v1591 : BitVec 32 := Scalar.muli v5 c1_i32_1666
  let v1592 : BitVec 32 := Scalar.addi c0_i32_1667 v1591
  v1592.toNat
def k0_dev91 (d0 : Dev nD) : Nat :=
  let c0_i32_1695 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1694 : BitVec 32 := 1#32
  let v1623 : BitVec 32 := Scalar.muli v5 c1_i32_1694
  let v1624 : BitVec 32 := Scalar.addi c0_i32_1695 v1623
  v1624.toNat
def k0_dev92 (d0 : Dev nD) : Nat :=
  let c0_i32_1705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1704 : BitVec 32 := 1#32
  let v1627 : BitVec 32 := Scalar.muli v7 c1_i32_1704
  let v1628 : BitVec 32 := Scalar.addi c0_i32_1705 v1627
  v1628.toNat
def k0_dev93 (d0 : Dev nD) : Nat :=
  let c0_i32_1733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1732 : BitVec 32 := 1#32
  let v1658 : BitVec 32 := Scalar.muli v7 c1_i32_1732
  let v1659 : BitVec 32 := Scalar.addi c0_i32_1733 v1658
  v1659.toNat
def k0_dev94 (d0 : Dev nD) : Nat :=
  let c0_i32_1743 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1742 : BitVec 32 := 1#32
  let v1662 : BitVec 32 := Scalar.muli v5 c1_i32_1742
  let v1663 : BitVec 32 := Scalar.addi c0_i32_1743 v1662
  v1663.toNat
def k0_dev95 (d0 : Dev nD) : Nat :=
  let c0_i32_1772 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1771 : BitVec 32 := 1#32
  let v1694 : BitVec 32 := Scalar.muli v5 c1_i32_1771
  let v1695 : BitVec 32 := Scalar.addi c0_i32_1772 v1694
  v1695.toNat
def k0_dev96 (d0 : Dev nD) : Nat :=
  let c0_i32_1782 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1781 : BitVec 32 := 1#32
  let v1698 : BitVec 32 := Scalar.muli v7 c1_i32_1781
  let v1699 : BitVec 32 := Scalar.addi c0_i32_1782 v1698
  v1699.toNat
def k0_dev97 (d0 : Dev nD) : Nat :=
  let c0_i32_1810 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1809 : BitVec 32 := 1#32
  let v1729 : BitVec 32 := Scalar.muli v7 c1_i32_1809
  let v1730 : BitVec 32 := Scalar.addi c0_i32_1810 v1729
  v1730.toNat
def k0_dev98 (d0 : Dev nD) : Nat :=
  let c0_i32_1820 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1819 : BitVec 32 := 1#32
  let v1733 : BitVec 32 := Scalar.muli v5 c1_i32_1819
  let v1734 : BitVec 32 := Scalar.addi c0_i32_1820 v1733
  v1734.toNat
def k0_dev99 (d0 : Dev nD) : Nat :=
  let c0_i32_1849 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1848 : BitVec 32 := 1#32
  let v1765 : BitVec 32 := Scalar.muli v5 c1_i32_1848
  let v1766 : BitVec 32 := Scalar.addi c0_i32_1849 v1765
  v1766.toNat
def k0_dev100 (d0 : Dev nD) : Nat :=
  let c0_i32_1859 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1858 : BitVec 32 := 1#32
  let v1769 : BitVec 32 := Scalar.muli v7 c1_i32_1858
  let v1770 : BitVec 32 := Scalar.addi c0_i32_1859 v1769
  v1770.toNat
def k0_dev101 (d0 : Dev nD) : Nat :=
  let c0_i32_1887 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1886 : BitVec 32 := 1#32
  let v1800 : BitVec 32 := Scalar.muli v7 c1_i32_1886
  let v1801 : BitVec 32 := Scalar.addi c0_i32_1887 v1800
  v1801.toNat
def k0_dev102 (d0 : Dev nD) : Nat :=
  let c0_i32_1897 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1896 : BitVec 32 := 1#32
  let v1804 : BitVec 32 := Scalar.muli v5 c1_i32_1896
  let v1805 : BitVec 32 := Scalar.addi c0_i32_1897 v1804
  v1805.toNat
def k0_dev103 (d0 : Dev nD) : Nat :=
  let c0_i32_1926 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1925 : BitVec 32 := 1#32
  let v1836 : BitVec 32 := Scalar.muli v5 c1_i32_1925
  let v1837 : BitVec 32 := Scalar.addi c0_i32_1926 v1836
  v1837.toNat
def k0_dev104 (d0 : Dev nD) : Nat :=
  let c0_i32_1936 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1935 : BitVec 32 := 1#32
  let v1840 : BitVec 32 := Scalar.muli v7 c1_i32_1935
  let v1841 : BitVec 32 := Scalar.addi c0_i32_1936 v1840
  v1841.toNat
def k0_dev105 (d0 : Dev nD) : Nat :=
  let c0_i32_1964 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_1963 : BitVec 32 := 1#32
  let v1871 : BitVec 32 := Scalar.muli v7 c1_i32_1963
  let v1872 : BitVec 32 := Scalar.addi c0_i32_1964 v1871
  v1872.toNat
def k0_dev106 (d0 : Dev nD) : Nat :=
  let c0_i32_1974 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_1973 : BitVec 32 := 1#32
  let v1875 : BitVec 32 := Scalar.muli v5 c1_i32_1973
  let v1876 : BitVec 32 := Scalar.addi c0_i32_1974 v1875
  v1876.toNat
def k0_dev107 (d0 : Dev nD) : Nat :=
  let c0_i32_2002 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2001 : BitVec 32 := 1#32
  let v1907 : BitVec 32 := Scalar.muli v5 c1_i32_2001
  let v1908 : BitVec 32 := Scalar.addi c0_i32_2002 v1907
  v1908.toNat
def k0_dev108 (d0 : Dev nD) : Nat :=
  let c0_i32_2012 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2011 : BitVec 32 := 1#32
  let v1911 : BitVec 32 := Scalar.muli v7 c1_i32_2011
  let v1912 : BitVec 32 := Scalar.addi c0_i32_2012 v1911
  v1912.toNat
def k0_dev109 (d0 : Dev nD) : Nat :=
  let c0_i32_2040 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2039 : BitVec 32 := 1#32
  let v1942 : BitVec 32 := Scalar.muli v7 c1_i32_2039
  let v1943 : BitVec 32 := Scalar.addi c0_i32_2040 v1942
  v1943.toNat
def k0_dev110 (d0 : Dev nD) : Nat :=
  let c0_i32_2050 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2049 : BitVec 32 := 1#32
  let v1946 : BitVec 32 := Scalar.muli v5 c1_i32_2049
  let v1947 : BitVec 32 := Scalar.addi c0_i32_2050 v1946
  v1947.toNat
def k0_dev111 (d0 : Dev nD) : Nat :=
  let c0_i32_2079 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2078 : BitVec 32 := 1#32
  let v1978 : BitVec 32 := Scalar.muli v5 c1_i32_2078
  let v1979 : BitVec 32 := Scalar.addi c0_i32_2079 v1978
  v1979.toNat
def k0_dev112 (d0 : Dev nD) : Nat :=
  let c0_i32_2089 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2088 : BitVec 32 := 1#32
  let v1982 : BitVec 32 := Scalar.muli v7 c1_i32_2088
  let v1983 : BitVec 32 := Scalar.addi c0_i32_2089 v1982
  v1983.toNat
def k0_dev113 (d0 : Dev nD) : Nat :=
  let c0_i32_2117 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2116 : BitVec 32 := 1#32
  let v2013 : BitVec 32 := Scalar.muli v7 c1_i32_2116
  let v2014 : BitVec 32 := Scalar.addi c0_i32_2117 v2013
  v2014.toNat
def k0_dev114 (d0 : Dev nD) : Nat :=
  let c0_i32_2127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2126 : BitVec 32 := 1#32
  let v2017 : BitVec 32 := Scalar.muli v5 c1_i32_2126
  let v2018 : BitVec 32 := Scalar.addi c0_i32_2127 v2017
  v2018.toNat
def k0_dev115 (d0 : Dev nD) : Nat :=
  let c0_i32_2156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2155 : BitVec 32 := 1#32
  let v2049 : BitVec 32 := Scalar.muli v5 c1_i32_2155
  let v2050 : BitVec 32 := Scalar.addi c0_i32_2156 v2049
  v2050.toNat
def k0_dev116 (d0 : Dev nD) : Nat :=
  let c0_i32_2166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2165 : BitVec 32 := 1#32
  let v2053 : BitVec 32 := Scalar.muli v7 c1_i32_2165
  let v2054 : BitVec 32 := Scalar.addi c0_i32_2166 v2053
  v2054.toNat
def k0_dev117 (d0 : Dev nD) : Nat :=
  let c0_i32_2194 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2193 : BitVec 32 := 1#32
  let v2084 : BitVec 32 := Scalar.muli v7 c1_i32_2193
  let v2085 : BitVec 32 := Scalar.addi c0_i32_2194 v2084
  v2085.toNat
def k0_dev118 (d0 : Dev nD) : Nat :=
  let c0_i32_2204 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2203 : BitVec 32 := 1#32
  let v2088 : BitVec 32 := Scalar.muli v5 c1_i32_2203
  let v2089 : BitVec 32 := Scalar.addi c0_i32_2204 v2088
  v2089.toNat
def k0_dev119 (d0 : Dev nD) : Nat :=
  let c0_i32_2233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2232 : BitVec 32 := 1#32
  let v2120 : BitVec 32 := Scalar.muli v5 c1_i32_2232
  let v2121 : BitVec 32 := Scalar.addi c0_i32_2233 v2120
  v2121.toNat
def k0_dev120 (d0 : Dev nD) : Nat :=
  let c0_i32_2243 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2242 : BitVec 32 := 1#32
  let v2124 : BitVec 32 := Scalar.muli v7 c1_i32_2242
  let v2125 : BitVec 32 := Scalar.addi c0_i32_2243 v2124
  v2125.toNat
def k0_dev121 (d0 : Dev nD) : Nat :=
  let c0_i32_2271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2270 : BitVec 32 := 1#32
  let v2155 : BitVec 32 := Scalar.muli v7 c1_i32_2270
  let v2156 : BitVec 32 := Scalar.addi c0_i32_2271 v2155
  v2156.toNat
def k0_dev122 (d0 : Dev nD) : Nat :=
  let c0_i32_2281 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2280 : BitVec 32 := 1#32
  let v2159 : BitVec 32 := Scalar.muli v5 c1_i32_2280
  let v2160 : BitVec 32 := Scalar.addi c0_i32_2281 v2159
  v2160.toNat
def k0_dev123 (d0 : Dev nD) : Nat :=
  let c0_i32_2309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2308 : BitVec 32 := 1#32
  let v2191 : BitVec 32 := Scalar.muli v5 c1_i32_2308
  let v2192 : BitVec 32 := Scalar.addi c0_i32_2309 v2191
  v2192.toNat
def k0_dev124 (d0 : Dev nD) : Nat :=
  let c0_i32_2319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2318 : BitVec 32 := 1#32
  let v2195 : BitVec 32 := Scalar.muli v7 c1_i32_2318
  let v2196 : BitVec 32 := Scalar.addi c0_i32_2319 v2195
  v2196.toNat
def k0_dev125 (d0 : Dev nD) : Nat :=
  let c0_i32_2347 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2346 : BitVec 32 := 1#32
  let v2226 : BitVec 32 := Scalar.muli v7 c1_i32_2346
  let v2227 : BitVec 32 := Scalar.addi c0_i32_2347 v2226
  v2227.toNat
def k0_dev126 (d0 : Dev nD) : Nat :=
  let c0_i32_2357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2356 : BitVec 32 := 1#32
  let v2230 : BitVec 32 := Scalar.muli v5 c1_i32_2356
  let v2231 : BitVec 32 := Scalar.addi c0_i32_2357 v2230
  v2231.toNat
def k0_dev127 (d0 : Dev nD) : Nat :=
  let c0_i32_2386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2385 : BitVec 32 := 1#32
  let v2262 : BitVec 32 := Scalar.muli v5 c1_i32_2385
  let v2263 : BitVec 32 := Scalar.addi c0_i32_2386 v2262
  v2263.toNat
def k0_dev128 (d0 : Dev nD) : Nat :=
  let c0_i32_2396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2395 : BitVec 32 := 1#32
  let v2266 : BitVec 32 := Scalar.muli v7 c1_i32_2395
  let v2267 : BitVec 32 := Scalar.addi c0_i32_2396 v2266
  v2267.toNat
def k0_dev129 (d0 : Dev nD) : Nat :=
  let c0_i32_2424 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2423 : BitVec 32 := 1#32
  let v2297 : BitVec 32 := Scalar.muli v7 c1_i32_2423
  let v2298 : BitVec 32 := Scalar.addi c0_i32_2424 v2297
  v2298.toNat
def k0_dev130 (d0 : Dev nD) : Nat :=
  let c0_i32_2434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2433 : BitVec 32 := 1#32
  let v2301 : BitVec 32 := Scalar.muli v5 c1_i32_2433
  let v2302 : BitVec 32 := Scalar.addi c0_i32_2434 v2301
  v2302.toNat
def k0_dev131 (d0 : Dev nD) : Nat :=
  let c0_i32_2463 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2462 : BitVec 32 := 1#32
  let v2333 : BitVec 32 := Scalar.muli v5 c1_i32_2462
  let v2334 : BitVec 32 := Scalar.addi c0_i32_2463 v2333
  v2334.toNat
def k0_dev132 (d0 : Dev nD) : Nat :=
  let c0_i32_2473 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2472 : BitVec 32 := 1#32
  let v2337 : BitVec 32 := Scalar.muli v7 c1_i32_2472
  let v2338 : BitVec 32 := Scalar.addi c0_i32_2473 v2337
  v2338.toNat
def k0_dev133 (d0 : Dev nD) : Nat :=
  let c0_i32_2501 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2500 : BitVec 32 := 1#32
  let v2368 : BitVec 32 := Scalar.muli v7 c1_i32_2500
  let v2369 : BitVec 32 := Scalar.addi c0_i32_2501 v2368
  v2369.toNat
def k0_dev134 (d0 : Dev nD) : Nat :=
  let c0_i32_2511 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2510 : BitVec 32 := 1#32
  let v2372 : BitVec 32 := Scalar.muli v5 c1_i32_2510
  let v2373 : BitVec 32 := Scalar.addi c0_i32_2511 v2372
  v2373.toNat
def k0_dev135 (d0 : Dev nD) : Nat :=
  let c0_i32_2540 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2539 : BitVec 32 := 1#32
  let v2404 : BitVec 32 := Scalar.muli v5 c1_i32_2539
  let v2405 : BitVec 32 := Scalar.addi c0_i32_2540 v2404
  v2405.toNat
def k0_dev136 (d0 : Dev nD) : Nat :=
  let c0_i32_2550 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2549 : BitVec 32 := 1#32
  let v2408 : BitVec 32 := Scalar.muli v7 c1_i32_2549
  let v2409 : BitVec 32 := Scalar.addi c0_i32_2550 v2408
  v2409.toNat
def k0_dev137 (d0 : Dev nD) : Nat :=
  let c0_i32_2578 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2577 : BitVec 32 := 1#32
  let v2439 : BitVec 32 := Scalar.muli v7 c1_i32_2577
  let v2440 : BitVec 32 := Scalar.addi c0_i32_2578 v2439
  v2440.toNat
def k0_dev138 (d0 : Dev nD) : Nat :=
  let c0_i32_2588 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2587 : BitVec 32 := 1#32
  let v2443 : BitVec 32 := Scalar.muli v5 c1_i32_2587
  let v2444 : BitVec 32 := Scalar.addi c0_i32_2588 v2443
  v2444.toNat
def k0_dev139 (d0 : Dev nD) : Nat :=
  let c0_i32_2616 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2615 : BitVec 32 := 1#32
  let v2475 : BitVec 32 := Scalar.muli v5 c1_i32_2615
  let v2476 : BitVec 32 := Scalar.addi c0_i32_2616 v2475
  v2476.toNat
def k0_dev140 (d0 : Dev nD) : Nat :=
  let c0_i32_2626 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2625 : BitVec 32 := 1#32
  let v2479 : BitVec 32 := Scalar.muli v7 c1_i32_2625
  let v2480 : BitVec 32 := Scalar.addi c0_i32_2626 v2479
  v2480.toNat
def k0_dev141 (d0 : Dev nD) : Nat :=
  let c0_i32_2654 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2653 : BitVec 32 := 1#32
  let v2510 : BitVec 32 := Scalar.muli v7 c1_i32_2653
  let v2511 : BitVec 32 := Scalar.addi c0_i32_2654 v2510
  v2511.toNat
def k0_dev142 (d0 : Dev nD) : Nat :=
  let c0_i32_2664 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2663 : BitVec 32 := 1#32
  let v2514 : BitVec 32 := Scalar.muli v5 c1_i32_2663
  let v2515 : BitVec 32 := Scalar.addi c0_i32_2664 v2514
  v2515.toNat
def k0_dev143 (d0 : Dev nD) : Nat :=
  let c0_i32_2693 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2692 : BitVec 32 := 1#32
  let v2546 : BitVec 32 := Scalar.muli v5 c1_i32_2692
  let v2547 : BitVec 32 := Scalar.addi c0_i32_2693 v2546
  v2547.toNat
def k0_dev144 (d0 : Dev nD) : Nat :=
  let c0_i32_2703 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2702 : BitVec 32 := 1#32
  let v2550 : BitVec 32 := Scalar.muli v7 c1_i32_2702
  let v2551 : BitVec 32 := Scalar.addi c0_i32_2703 v2550
  v2551.toNat
def k0_dev145 (d0 : Dev nD) : Nat :=
  let c0_i32_2731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2730 : BitVec 32 := 1#32
  let v2581 : BitVec 32 := Scalar.muli v7 c1_i32_2730
  let v2582 : BitVec 32 := Scalar.addi c0_i32_2731 v2581
  v2582.toNat
def k0_dev146 (d0 : Dev nD) : Nat :=
  let c0_i32_2741 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2740 : BitVec 32 := 1#32
  let v2585 : BitVec 32 := Scalar.muli v5 c1_i32_2740
  let v2586 : BitVec 32 := Scalar.addi c0_i32_2741 v2585
  v2586.toNat
def k0_dev147 (d0 : Dev nD) : Nat :=
  let c0_i32_2770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2769 : BitVec 32 := 1#32
  let v2617 : BitVec 32 := Scalar.muli v5 c1_i32_2769
  let v2618 : BitVec 32 := Scalar.addi c0_i32_2770 v2617
  v2618.toNat
def k0_dev148 (d0 : Dev nD) : Nat :=
  let c0_i32_2780 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2779 : BitVec 32 := 1#32
  let v2621 : BitVec 32 := Scalar.muli v7 c1_i32_2779
  let v2622 : BitVec 32 := Scalar.addi c0_i32_2780 v2621
  v2622.toNat
def k0_dev149 (d0 : Dev nD) : Nat :=
  let c0_i32_2808 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2807 : BitVec 32 := 1#32
  let v2652 : BitVec 32 := Scalar.muli v7 c1_i32_2807
  let v2653 : BitVec 32 := Scalar.addi c0_i32_2808 v2652
  v2653.toNat
def k0_dev150 (d0 : Dev nD) : Nat :=
  let c0_i32_2818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2817 : BitVec 32 := 1#32
  let v2656 : BitVec 32 := Scalar.muli v5 c1_i32_2817
  let v2657 : BitVec 32 := Scalar.addi c0_i32_2818 v2656
  v2657.toNat
def k0_dev151 (d0 : Dev nD) : Nat :=
  let c0_i32_2847 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2846 : BitVec 32 := 1#32
  let v2688 : BitVec 32 := Scalar.muli v5 c1_i32_2846
  let v2689 : BitVec 32 := Scalar.addi c0_i32_2847 v2688
  v2689.toNat
def k0_dev152 (d0 : Dev nD) : Nat :=
  let c0_i32_2857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2856 : BitVec 32 := 1#32
  let v2692 : BitVec 32 := Scalar.muli v7 c1_i32_2856
  let v2693 : BitVec 32 := Scalar.addi c0_i32_2857 v2692
  v2693.toNat
def k0_dev153 (d0 : Dev nD) : Nat :=
  let c0_i32_2885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2884 : BitVec 32 := 1#32
  let v2723 : BitVec 32 := Scalar.muli v7 c1_i32_2884
  let v2724 : BitVec 32 := Scalar.addi c0_i32_2885 v2723
  v2724.toNat
def k0_dev154 (d0 : Dev nD) : Nat :=
  let c0_i32_2895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2894 : BitVec 32 := 1#32
  let v2727 : BitVec 32 := Scalar.muli v5 c1_i32_2894
  let v2728 : BitVec 32 := Scalar.addi c0_i32_2895 v2727
  v2728.toNat
def k0_dev155 (d0 : Dev nD) : Nat :=
  let c0_i32_2923 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2922 : BitVec 32 := 1#32
  let v2759 : BitVec 32 := Scalar.muli v5 c1_i32_2922
  let v2760 : BitVec 32 := Scalar.addi c0_i32_2923 v2759
  v2760.toNat
def k0_dev156 (d0 : Dev nD) : Nat :=
  let c0_i32_2933 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2932 : BitVec 32 := 1#32
  let v2763 : BitVec 32 := Scalar.muli v7 c1_i32_2932
  let v2764 : BitVec 32 := Scalar.addi c0_i32_2933 v2763
  v2764.toNat
def k0_dev157 (d0 : Dev nD) : Nat :=
  let c0_i32_2961 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_2960 : BitVec 32 := 1#32
  let v2794 : BitVec 32 := Scalar.muli v7 c1_i32_2960
  let v2795 : BitVec 32 := Scalar.addi c0_i32_2961 v2794
  v2795.toNat
def k0_dev158 (d0 : Dev nD) : Nat :=
  let c0_i32_2971 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2970 : BitVec 32 := 1#32
  let v2798 : BitVec 32 := Scalar.muli v5 c1_i32_2970
  let v2799 : BitVec 32 := Scalar.addi c0_i32_2971 v2798
  v2799.toNat
def k0_dev159 (d0 : Dev nD) : Nat :=
  let c0_i32_3000 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_2999 : BitVec 32 := 1#32
  let v2830 : BitVec 32 := Scalar.muli v5 c1_i32_2999
  let v2831 : BitVec 32 := Scalar.addi c0_i32_3000 v2830
  v2831.toNat
def k0_dev160 (d0 : Dev nD) : Nat :=
  let c0_i32_3010 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3009 : BitVec 32 := 1#32
  let v2834 : BitVec 32 := Scalar.muli v7 c1_i32_3009
  let v2835 : BitVec 32 := Scalar.addi c0_i32_3010 v2834
  v2835.toNat
def k0_dev161 (d0 : Dev nD) : Nat :=
  let c0_i32_3038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3037 : BitVec 32 := 1#32
  let v2865 : BitVec 32 := Scalar.muli v7 c1_i32_3037
  let v2866 : BitVec 32 := Scalar.addi c0_i32_3038 v2865
  v2866.toNat
def k0_dev162 (d0 : Dev nD) : Nat :=
  let c0_i32_3048 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3047 : BitVec 32 := 1#32
  let v2869 : BitVec 32 := Scalar.muli v5 c1_i32_3047
  let v2870 : BitVec 32 := Scalar.addi c0_i32_3048 v2869
  v2870.toNat
def k0_dev163 (d0 : Dev nD) : Nat :=
  let c0_i32_3077 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3076 : BitVec 32 := 1#32
  let v2901 : BitVec 32 := Scalar.muli v5 c1_i32_3076
  let v2902 : BitVec 32 := Scalar.addi c0_i32_3077 v2901
  v2902.toNat
def k0_dev164 (d0 : Dev nD) : Nat :=
  let c0_i32_3087 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3086 : BitVec 32 := 1#32
  let v2905 : BitVec 32 := Scalar.muli v7 c1_i32_3086
  let v2906 : BitVec 32 := Scalar.addi c0_i32_3087 v2905
  v2906.toNat
def k0_dev165 (d0 : Dev nD) : Nat :=
  let c0_i32_3115 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3114 : BitVec 32 := 1#32
  let v2936 : BitVec 32 := Scalar.muli v7 c1_i32_3114
  let v2937 : BitVec 32 := Scalar.addi c0_i32_3115 v2936
  v2937.toNat
def k0_dev166 (d0 : Dev nD) : Nat :=
  let c0_i32_3125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3124 : BitVec 32 := 1#32
  let v2940 : BitVec 32 := Scalar.muli v5 c1_i32_3124
  let v2941 : BitVec 32 := Scalar.addi c0_i32_3125 v2940
  v2941.toNat
def k0_dev167 (d0 : Dev nD) : Nat :=
  let c0_i32_3154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3153 : BitVec 32 := 1#32
  let v2972 : BitVec 32 := Scalar.muli v5 c1_i32_3153
  let v2973 : BitVec 32 := Scalar.addi c0_i32_3154 v2972
  v2973.toNat
def k0_dev168 (d0 : Dev nD) : Nat :=
  let c0_i32_3164 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3163 : BitVec 32 := 1#32
  let v2976 : BitVec 32 := Scalar.muli v7 c1_i32_3163
  let v2977 : BitVec 32 := Scalar.addi c0_i32_3164 v2976
  v2977.toNat
def k0_dev169 (d0 : Dev nD) : Nat :=
  let c0_i32_3192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3191 : BitVec 32 := 1#32
  let v3007 : BitVec 32 := Scalar.muli v7 c1_i32_3191
  let v3008 : BitVec 32 := Scalar.addi c0_i32_3192 v3007
  v3008.toNat
def k0_dev170 (d0 : Dev nD) : Nat :=
  let c0_i32_3202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3201 : BitVec 32 := 1#32
  let v3011 : BitVec 32 := Scalar.muli v5 c1_i32_3201
  let v3012 : BitVec 32 := Scalar.addi c0_i32_3202 v3011
  v3012.toNat
def k0_dev171 (d0 : Dev nD) : Nat :=
  let c0_i32_3230 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3229 : BitVec 32 := 1#32
  let v3043 : BitVec 32 := Scalar.muli v5 c1_i32_3229
  let v3044 : BitVec 32 := Scalar.addi c0_i32_3230 v3043
  v3044.toNat
def k0_dev172 (d0 : Dev nD) : Nat :=
  let c0_i32_3240 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3239 : BitVec 32 := 1#32
  let v3047 : BitVec 32 := Scalar.muli v7 c1_i32_3239
  let v3048 : BitVec 32 := Scalar.addi c0_i32_3240 v3047
  v3048.toNat
def k0_dev173 (d0 : Dev nD) : Nat :=
  let c0_i32_3268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3267 : BitVec 32 := 1#32
  let v3078 : BitVec 32 := Scalar.muli v7 c1_i32_3267
  let v3079 : BitVec 32 := Scalar.addi c0_i32_3268 v3078
  v3079.toNat
def k0_dev174 (d0 : Dev nD) : Nat :=
  let c0_i32_3278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3277 : BitVec 32 := 1#32
  let v3082 : BitVec 32 := Scalar.muli v5 c1_i32_3277
  let v3083 : BitVec 32 := Scalar.addi c0_i32_3278 v3082
  v3083.toNat
def k0_dev175 (d0 : Dev nD) : Nat :=
  let c0_i32_3307 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3306 : BitVec 32 := 1#32
  let v3114 : BitVec 32 := Scalar.muli v5 c1_i32_3306
  let v3115 : BitVec 32 := Scalar.addi c0_i32_3307 v3114
  v3115.toNat
def k0_dev176 (d0 : Dev nD) : Nat :=
  let c0_i32_3317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3316 : BitVec 32 := 1#32
  let v3118 : BitVec 32 := Scalar.muli v7 c1_i32_3316
  let v3119 : BitVec 32 := Scalar.addi c0_i32_3317 v3118
  v3119.toNat
def k0_dev177 (d0 : Dev nD) : Nat :=
  let c0_i32_3345 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3344 : BitVec 32 := 1#32
  let v3149 : BitVec 32 := Scalar.muli v7 c1_i32_3344
  let v3150 : BitVec 32 := Scalar.addi c0_i32_3345 v3149
  v3150.toNat
def k0_dev178 (d0 : Dev nD) : Nat :=
  let c0_i32_3355 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3354 : BitVec 32 := 1#32
  let v3153 : BitVec 32 := Scalar.muli v5 c1_i32_3354
  let v3154 : BitVec 32 := Scalar.addi c0_i32_3355 v3153
  v3154.toNat
def k0_dev179 (d0 : Dev nD) : Nat :=
  let c0_i32_3384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3383 : BitVec 32 := 1#32
  let v3185 : BitVec 32 := Scalar.muli v5 c1_i32_3383
  let v3186 : BitVec 32 := Scalar.addi c0_i32_3384 v3185
  v3186.toNat
def k0_dev180 (d0 : Dev nD) : Nat :=
  let c0_i32_3394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3393 : BitVec 32 := 1#32
  let v3189 : BitVec 32 := Scalar.muli v7 c1_i32_3393
  let v3190 : BitVec 32 := Scalar.addi c0_i32_3394 v3189
  v3190.toNat
def k0_dev181 (d0 : Dev nD) : Nat :=
  let c0_i32_3422 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3421 : BitVec 32 := 1#32
  let v3220 : BitVec 32 := Scalar.muli v7 c1_i32_3421
  let v3221 : BitVec 32 := Scalar.addi c0_i32_3422 v3220
  v3221.toNat
def k0_dev182 (d0 : Dev nD) : Nat :=
  let c0_i32_3432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3431 : BitVec 32 := 1#32
  let v3224 : BitVec 32 := Scalar.muli v5 c1_i32_3431
  let v3225 : BitVec 32 := Scalar.addi c0_i32_3432 v3224
  v3225.toNat
def k0_dev183 (d0 : Dev nD) : Nat :=
  let c0_i32_3461 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3460 : BitVec 32 := 1#32
  let v3256 : BitVec 32 := Scalar.muli v5 c1_i32_3460
  let v3257 : BitVec 32 := Scalar.addi c0_i32_3461 v3256
  v3257.toNat
def k0_dev184 (d0 : Dev nD) : Nat :=
  let c0_i32_3471 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3470 : BitVec 32 := 1#32
  let v3260 : BitVec 32 := Scalar.muli v7 c1_i32_3470
  let v3261 : BitVec 32 := Scalar.addi c0_i32_3471 v3260
  v3261.toNat
def k0_dev185 (d0 : Dev nD) : Nat :=
  let c0_i32_3499 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3498 : BitVec 32 := 1#32
  let v3291 : BitVec 32 := Scalar.muli v7 c1_i32_3498
  let v3292 : BitVec 32 := Scalar.addi c0_i32_3499 v3291
  v3292.toNat
def k0_dev186 (d0 : Dev nD) : Nat :=
  let c0_i32_3509 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3508 : BitVec 32 := 1#32
  let v3295 : BitVec 32 := Scalar.muli v5 c1_i32_3508
  let v3296 : BitVec 32 := Scalar.addi c0_i32_3509 v3295
  v3296.toNat
def k0_dev187 (d0 : Dev nD) : Nat :=
  let c0_i32_3537 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3536 : BitVec 32 := 1#32
  let v3327 : BitVec 32 := Scalar.muli v5 c1_i32_3536
  let v3328 : BitVec 32 := Scalar.addi c0_i32_3537 v3327
  v3328.toNat
def k0_dev188 (d0 : Dev nD) : Nat :=
  let c0_i32_3547 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3546 : BitVec 32 := 1#32
  let v3331 : BitVec 32 := Scalar.muli v7 c1_i32_3546
  let v3332 : BitVec 32 := Scalar.addi c0_i32_3547 v3331
  v3332.toNat
def k0_dev189 (d0 : Dev nD) : Nat :=
  let c0_i32_3575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3574 : BitVec 32 := 1#32
  let v3362 : BitVec 32 := Scalar.muli v7 c1_i32_3574
  let v3363 : BitVec 32 := Scalar.addi c0_i32_3575 v3362
  v3363.toNat
def k0_dev190 (d0 : Dev nD) : Nat :=
  let c0_i32_3585 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3584 : BitVec 32 := 1#32
  let v3366 : BitVec 32 := Scalar.muli v5 c1_i32_3584
  let v3367 : BitVec 32 := Scalar.addi c0_i32_3585 v3366
  v3367.toNat
def k0_dev191 (d0 : Dev nD) : Nat :=
  let c0_i32_3614 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3613 : BitVec 32 := 1#32
  let v3398 : BitVec 32 := Scalar.muli v5 c1_i32_3613
  let v3399 : BitVec 32 := Scalar.addi c0_i32_3614 v3398
  v3399.toNat
def k0_dev192 (d0 : Dev nD) : Nat :=
  let c0_i32_3624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3623 : BitVec 32 := 1#32
  let v3402 : BitVec 32 := Scalar.muli v7 c1_i32_3623
  let v3403 : BitVec 32 := Scalar.addi c0_i32_3624 v3402
  v3403.toNat
def k0_dev193 (d0 : Dev nD) : Nat :=
  let c0_i32_3652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3651 : BitVec 32 := 1#32
  let v3433 : BitVec 32 := Scalar.muli v7 c1_i32_3651
  let v3434 : BitVec 32 := Scalar.addi c0_i32_3652 v3433
  v3434.toNat
def k0_dev194 (d0 : Dev nD) : Nat :=
  let c0_i32_3662 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3661 : BitVec 32 := 1#32
  let v3437 : BitVec 32 := Scalar.muli v5 c1_i32_3661
  let v3438 : BitVec 32 := Scalar.addi c0_i32_3662 v3437
  v3438.toNat
def k0_dev195 (d0 : Dev nD) : Nat :=
  let c0_i32_3691 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3690 : BitVec 32 := 1#32
  let v3469 : BitVec 32 := Scalar.muli v5 c1_i32_3690
  let v3470 : BitVec 32 := Scalar.addi c0_i32_3691 v3469
  v3470.toNat
def k0_dev196 (d0 : Dev nD) : Nat :=
  let c0_i32_3701 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3700 : BitVec 32 := 1#32
  let v3473 : BitVec 32 := Scalar.muli v7 c1_i32_3700
  let v3474 : BitVec 32 := Scalar.addi c0_i32_3701 v3473
  v3474.toNat
def k0_dev197 (d0 : Dev nD) : Nat :=
  let c0_i32_3729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3728 : BitVec 32 := 1#32
  let v3504 : BitVec 32 := Scalar.muli v7 c1_i32_3728
  let v3505 : BitVec 32 := Scalar.addi c0_i32_3729 v3504
  v3505.toNat
def k0_dev198 (d0 : Dev nD) : Nat :=
  let c0_i32_3739 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3738 : BitVec 32 := 1#32
  let v3508 : BitVec 32 := Scalar.muli v5 c1_i32_3738
  let v3509 : BitVec 32 := Scalar.addi c0_i32_3739 v3508
  v3509.toNat
def k0_dev199 (d0 : Dev nD) : Nat :=
  let c0_i32_3768 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3767 : BitVec 32 := 1#32
  let v3540 : BitVec 32 := Scalar.muli v5 c1_i32_3767
  let v3541 : BitVec 32 := Scalar.addi c0_i32_3768 v3540
  v3541.toNat
def k0_dev200 (d0 : Dev nD) : Nat :=
  let c0_i32_3778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3777 : BitVec 32 := 1#32
  let v3544 : BitVec 32 := Scalar.muli v7 c1_i32_3777
  let v3545 : BitVec 32 := Scalar.addi c0_i32_3778 v3544
  v3545.toNat
def k0_dev201 (d0 : Dev nD) : Nat :=
  let c0_i32_3806 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3805 : BitVec 32 := 1#32
  let v3575 : BitVec 32 := Scalar.muli v7 c1_i32_3805
  let v3576 : BitVec 32 := Scalar.addi c0_i32_3806 v3575
  v3576.toNat
def k0_dev202 (d0 : Dev nD) : Nat :=
  let c0_i32_3816 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3815 : BitVec 32 := 1#32
  let v3579 : BitVec 32 := Scalar.muli v5 c1_i32_3815
  let v3580 : BitVec 32 := Scalar.addi c0_i32_3816 v3579
  v3580.toNat
def k0_dev203 (d0 : Dev nD) : Nat :=
  let c0_i32_3844 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3843 : BitVec 32 := 1#32
  let v3611 : BitVec 32 := Scalar.muli v5 c1_i32_3843
  let v3612 : BitVec 32 := Scalar.addi c0_i32_3844 v3611
  v3612.toNat
def k0_dev204 (d0 : Dev nD) : Nat :=
  let c0_i32_3854 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3853 : BitVec 32 := 1#32
  let v3615 : BitVec 32 := Scalar.muli v7 c1_i32_3853
  let v3616 : BitVec 32 := Scalar.addi c0_i32_3854 v3615
  v3616.toNat
def k0_dev205 (d0 : Dev nD) : Nat :=
  let c0_i32_3882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3881 : BitVec 32 := 1#32
  let v3646 : BitVec 32 := Scalar.muli v7 c1_i32_3881
  let v3647 : BitVec 32 := Scalar.addi c0_i32_3882 v3646
  v3647.toNat
def k0_dev206 (d0 : Dev nD) : Nat :=
  let c0_i32_3892 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3891 : BitVec 32 := 1#32
  let v3650 : BitVec 32 := Scalar.muli v5 c1_i32_3891
  let v3651 : BitVec 32 := Scalar.addi c0_i32_3892 v3650
  v3651.toNat
def k0_dev207 (d0 : Dev nD) : Nat :=
  let c0_i32_3921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3920 : BitVec 32 := 1#32
  let v3682 : BitVec 32 := Scalar.muli v5 c1_i32_3920
  let v3683 : BitVec 32 := Scalar.addi c0_i32_3921 v3682
  v3683.toNat
def k0_dev208 (d0 : Dev nD) : Nat :=
  let c0_i32_3931 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3930 : BitVec 32 := 1#32
  let v3686 : BitVec 32 := Scalar.muli v7 c1_i32_3930
  let v3687 : BitVec 32 := Scalar.addi c0_i32_3931 v3686
  v3687.toNat
def k0_dev209 (d0 : Dev nD) : Nat :=
  let c0_i32_3959 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_3958 : BitVec 32 := 1#32
  let v3717 : BitVec 32 := Scalar.muli v7 c1_i32_3958
  let v3718 : BitVec 32 := Scalar.addi c0_i32_3959 v3717
  v3718.toNat
def k0_dev210 (d0 : Dev nD) : Nat :=
  let c0_i32_3969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3968 : BitVec 32 := 1#32
  let v3721 : BitVec 32 := Scalar.muli v5 c1_i32_3968
  let v3722 : BitVec 32 := Scalar.addi c0_i32_3969 v3721
  v3722.toNat
def k0_dev211 (d0 : Dev nD) : Nat :=
  let c0_i32_3998 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_3997 : BitVec 32 := 1#32
  let v3753 : BitVec 32 := Scalar.muli v5 c1_i32_3997
  let v3754 : BitVec 32 := Scalar.addi c0_i32_3998 v3753
  v3754.toNat
def k0_dev212 (d0 : Dev nD) : Nat :=
  let c0_i32_4008 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4007 : BitVec 32 := 1#32
  let v3757 : BitVec 32 := Scalar.muli v7 c1_i32_4007
  let v3758 : BitVec 32 := Scalar.addi c0_i32_4008 v3757
  v3758.toNat
def k0_dev213 (d0 : Dev nD) : Nat :=
  let c0_i32_4036 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4035 : BitVec 32 := 1#32
  let v3788 : BitVec 32 := Scalar.muli v7 c1_i32_4035
  let v3789 : BitVec 32 := Scalar.addi c0_i32_4036 v3788
  v3789.toNat
def k0_dev214 (d0 : Dev nD) : Nat :=
  let c0_i32_4046 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4045 : BitVec 32 := 1#32
  let v3792 : BitVec 32 := Scalar.muli v5 c1_i32_4045
  let v3793 : BitVec 32 := Scalar.addi c0_i32_4046 v3792
  v3793.toNat
def k0_dev215 (d0 : Dev nD) : Nat :=
  let c0_i32_4075 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4074 : BitVec 32 := 1#32
  let v3824 : BitVec 32 := Scalar.muli v5 c1_i32_4074
  let v3825 : BitVec 32 := Scalar.addi c0_i32_4075 v3824
  v3825.toNat
def k0_dev216 (d0 : Dev nD) : Nat :=
  let c0_i32_4085 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4084 : BitVec 32 := 1#32
  let v3828 : BitVec 32 := Scalar.muli v7 c1_i32_4084
  let v3829 : BitVec 32 := Scalar.addi c0_i32_4085 v3828
  v3829.toNat
def k0_dev217 (d0 : Dev nD) : Nat :=
  let c0_i32_4113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4112 : BitVec 32 := 1#32
  let v3859 : BitVec 32 := Scalar.muli v7 c1_i32_4112
  let v3860 : BitVec 32 := Scalar.addi c0_i32_4113 v3859
  v3860.toNat
def k0_dev218 (d0 : Dev nD) : Nat :=
  let c0_i32_4123 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4122 : BitVec 32 := 1#32
  let v3863 : BitVec 32 := Scalar.muli v5 c1_i32_4122
  let v3864 : BitVec 32 := Scalar.addi c0_i32_4123 v3863
  v3864.toNat
def k0_dev219 (d0 : Dev nD) : Nat :=
  let c0_i32_4151 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4150 : BitVec 32 := 1#32
  let v3895 : BitVec 32 := Scalar.muli v5 c1_i32_4150
  let v3896 : BitVec 32 := Scalar.addi c0_i32_4151 v3895
  v3896.toNat
def k0_dev220 (d0 : Dev nD) : Nat :=
  let c0_i32_4161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4160 : BitVec 32 := 1#32
  let v3899 : BitVec 32 := Scalar.muli v7 c1_i32_4160
  let v3900 : BitVec 32 := Scalar.addi c0_i32_4161 v3899
  v3900.toNat
def k0_dev221 (d0 : Dev nD) : Nat :=
  let c0_i32_4189 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4188 : BitVec 32 := 1#32
  let v3930 : BitVec 32 := Scalar.muli v7 c1_i32_4188
  let v3931 : BitVec 32 := Scalar.addi c0_i32_4189 v3930
  v3931.toNat
def k0_dev222 (d0 : Dev nD) : Nat :=
  let c0_i32_4199 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4198 : BitVec 32 := 1#32
  let v3934 : BitVec 32 := Scalar.muli v5 c1_i32_4198
  let v3935 : BitVec 32 := Scalar.addi c0_i32_4199 v3934
  v3935.toNat
def k0_dev223 (d0 : Dev nD) : Nat :=
  let c0_i32_4228 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4227 : BitVec 32 := 1#32
  let v3966 : BitVec 32 := Scalar.muli v5 c1_i32_4227
  let v3967 : BitVec 32 := Scalar.addi c0_i32_4228 v3966
  v3967.toNat
def k0_dev224 (d0 : Dev nD) : Nat :=
  let c0_i32_4238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4237 : BitVec 32 := 1#32
  let v3970 : BitVec 32 := Scalar.muli v7 c1_i32_4237
  let v3971 : BitVec 32 := Scalar.addi c0_i32_4238 v3970
  v3971.toNat
def k0_dev225 (d0 : Dev nD) : Nat :=
  let c0_i32_4266 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4265 : BitVec 32 := 1#32
  let v4001 : BitVec 32 := Scalar.muli v7 c1_i32_4265
  let v4002 : BitVec 32 := Scalar.addi c0_i32_4266 v4001
  v4002.toNat
def k0_dev226 (d0 : Dev nD) : Nat :=
  let c0_i32_4276 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4275 : BitVec 32 := 1#32
  let v4005 : BitVec 32 := Scalar.muli v5 c1_i32_4275
  let v4006 : BitVec 32 := Scalar.addi c0_i32_4276 v4005
  v4006.toNat
def k0_dev227 (d0 : Dev nD) : Nat :=
  let c0_i32_4305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4304 : BitVec 32 := 1#32
  let v4037 : BitVec 32 := Scalar.muli v5 c1_i32_4304
  let v4038 : BitVec 32 := Scalar.addi c0_i32_4305 v4037
  v4038.toNat
def k0_dev228 (d0 : Dev nD) : Nat :=
  let c0_i32_4315 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4314 : BitVec 32 := 1#32
  let v4041 : BitVec 32 := Scalar.muli v7 c1_i32_4314
  let v4042 : BitVec 32 := Scalar.addi c0_i32_4315 v4041
  v4042.toNat
def k0_dev229 (d0 : Dev nD) : Nat :=
  let c0_i32_4343 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4342 : BitVec 32 := 1#32
  let v4072 : BitVec 32 := Scalar.muli v7 c1_i32_4342
  let v4073 : BitVec 32 := Scalar.addi c0_i32_4343 v4072
  v4073.toNat
def k0_dev230 (d0 : Dev nD) : Nat :=
  let c0_i32_4353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4352 : BitVec 32 := 1#32
  let v4076 : BitVec 32 := Scalar.muli v5 c1_i32_4352
  let v4077 : BitVec 32 := Scalar.addi c0_i32_4353 v4076
  v4077.toNat
def k0_dev231 (d0 : Dev nD) : Nat :=
  let c0_i32_4382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4381 : BitVec 32 := 1#32
  let v4108 : BitVec 32 := Scalar.muli v5 c1_i32_4381
  let v4109 : BitVec 32 := Scalar.addi c0_i32_4382 v4108
  v4109.toNat
def k0_dev232 (d0 : Dev nD) : Nat :=
  let c0_i32_4392 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4391 : BitVec 32 := 1#32
  let v4112 : BitVec 32 := Scalar.muli v7 c1_i32_4391
  let v4113 : BitVec 32 := Scalar.addi c0_i32_4392 v4112
  v4113.toNat
def k0_dev233 (d0 : Dev nD) : Nat :=
  let c0_i32_4420 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4419 : BitVec 32 := 1#32
  let v4143 : BitVec 32 := Scalar.muli v7 c1_i32_4419
  let v4144 : BitVec 32 := Scalar.addi c0_i32_4420 v4143
  v4144.toNat
def k0_dev234 (d0 : Dev nD) : Nat :=
  let c0_i32_4430 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4429 : BitVec 32 := 1#32
  let v4147 : BitVec 32 := Scalar.muli v5 c1_i32_4429
  let v4148 : BitVec 32 := Scalar.addi c0_i32_4430 v4147
  v4148.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32_4442 : BitVec 32 := 256#32
  let v4159 : BitVec 32 := Scalar.muli v2 c256_i32_4442
  let v4160 : Index := Scalar.indexCast v4159
  let c0_4443 : Index := 0#32
  ![v4160.toNat, 0]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v4338 : Index := Scalar.indexCast v2
  let c0_4600 : Index := 0#32
  let c0_4601 : Index := 0#32
  ![v4338.toNat, 0, 0]
def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_4607 : BitVec 32 := 0#32
  let c0_i32_4608 : BitVec 32 := 0#32
  ![v2.toNat, 0, 0]
def k0_dev235 (d0 : Dev nD) : Nat :=
  let c0_i32_4606 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_4602 : BitVec 32 := 1#32
  let v4342 : BitVec 32 := Scalar.addi v2 c1_i32_4602
  let c16_i32_4603 : BitVec 32 := 16#32
  let v4343 : BitVec 32 := Scalar.remsi v4342 c16_i32_4603
  let c1_i32_4605 : BitVec 32 := 1#32
  let v4344 : BitVec 32 := Scalar.muli v4343 c1_i32_4605
  let v4345 : BitVec 32 := Scalar.addi c0_i32_4606 v4344
  v4345.toNat
def k0_dev236 (d0 : Dev nD) : Nat :=
  let c0_i32_4615 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_4611 : BitVec 32 := 2#32
  let v4354 : BitVec 32 := Scalar.addi v2 c2_i32_4611
  let c16_i32_4612 : BitVec 32 := 16#32
  let v4355 : BitVec 32 := Scalar.remsi v4354 c16_i32_4612
  let c1_i32_4614 : BitVec 32 := 1#32
  let v4356 : BitVec 32 := Scalar.muli v4355 c1_i32_4614
  let v4357 : BitVec 32 := Scalar.addi c0_i32_4615 v4356
  v4357.toNat
def k0_dev237 (d0 : Dev nD) : Nat :=
  let c0_i32_4624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_4620 : BitVec 32 := 3#32
  let v4366 : BitVec 32 := Scalar.addi v2 c3_i32_4620
  let c16_i32_4621 : BitVec 32 := 16#32
  let v4367 : BitVec 32 := Scalar.remsi v4366 c16_i32_4621
  let c1_i32_4623 : BitVec 32 := 1#32
  let v4368 : BitVec 32 := Scalar.muli v4367 c1_i32_4623
  let v4369 : BitVec 32 := Scalar.addi c0_i32_4624 v4368
  v4369.toNat
def k0_dev238 (d0 : Dev nD) : Nat :=
  let c0_i32_4633 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_4629 : BitVec 32 := 4#32
  let v4378 : BitVec 32 := Scalar.addi v2 c4_i32_4629
  let c16_i32_4630 : BitVec 32 := 16#32
  let v4379 : BitVec 32 := Scalar.remsi v4378 c16_i32_4630
  let c1_i32_4632 : BitVec 32 := 1#32
  let v4380 : BitVec 32 := Scalar.muli v4379 c1_i32_4632
  let v4381 : BitVec 32 := Scalar.addi c0_i32_4633 v4380
  v4381.toNat
def k0_dev239 (d0 : Dev nD) : Nat :=
  let c0_i32_4642 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_4638 : BitVec 32 := 5#32
  let v4390 : BitVec 32 := Scalar.addi v2 c5_i32_4638
  let c16_i32_4639 : BitVec 32 := 16#32
  let v4391 : BitVec 32 := Scalar.remsi v4390 c16_i32_4639
  let c1_i32_4641 : BitVec 32 := 1#32
  let v4392 : BitVec 32 := Scalar.muli v4391 c1_i32_4641
  let v4393 : BitVec 32 := Scalar.addi c0_i32_4642 v4392
  v4393.toNat
def k0_dev240 (d0 : Dev nD) : Nat :=
  let c0_i32_4651 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_4647 : BitVec 32 := 6#32
  let v4402 : BitVec 32 := Scalar.addi v2 c6_i32_4647
  let c16_i32_4648 : BitVec 32 := 16#32
  let v4403 : BitVec 32 := Scalar.remsi v4402 c16_i32_4648
  let c1_i32_4650 : BitVec 32 := 1#32
  let v4404 : BitVec 32 := Scalar.muli v4403 c1_i32_4650
  let v4405 : BitVec 32 := Scalar.addi c0_i32_4651 v4404
  v4405.toNat
def k0_dev241 (d0 : Dev nD) : Nat :=
  let c0_i32_4660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_4656 : BitVec 32 := 7#32
  let v4414 : BitVec 32 := Scalar.addi v2 c7_i32_4656
  let c16_i32_4657 : BitVec 32 := 16#32
  let v4415 : BitVec 32 := Scalar.remsi v4414 c16_i32_4657
  let c1_i32_4659 : BitVec 32 := 1#32
  let v4416 : BitVec 32 := Scalar.muli v4415 c1_i32_4659
  let v4417 : BitVec 32 := Scalar.addi c0_i32_4660 v4416
  v4417.toNat
def k0_dev242 (d0 : Dev nD) : Nat :=
  let c0_i32_4669 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_4665 : BitVec 32 := 8#32
  let v4426 : BitVec 32 := Scalar.addi v2 c8_i32_4665
  let c16_i32_4666 : BitVec 32 := 16#32
  let v4427 : BitVec 32 := Scalar.remsi v4426 c16_i32_4666
  let c1_i32_4668 : BitVec 32 := 1#32
  let v4428 : BitVec 32 := Scalar.muli v4427 c1_i32_4668
  let v4429 : BitVec 32 := Scalar.addi c0_i32_4669 v4428
  v4429.toNat
def k0_dev243 (d0 : Dev nD) : Nat :=
  let c0_i32_4678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_4674 : BitVec 32 := 9#32
  let v4438 : BitVec 32 := Scalar.addi v2 c9_i32_4674
  let c16_i32_4675 : BitVec 32 := 16#32
  let v4439 : BitVec 32 := Scalar.remsi v4438 c16_i32_4675
  let c1_i32_4677 : BitVec 32 := 1#32
  let v4440 : BitVec 32 := Scalar.muli v4439 c1_i32_4677
  let v4441 : BitVec 32 := Scalar.addi c0_i32_4678 v4440
  v4441.toNat
def k0_dev244 (d0 : Dev nD) : Nat :=
  let c0_i32_4687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_4683 : BitVec 32 := 10#32
  let v4450 : BitVec 32 := Scalar.addi v2 c10_i32_4683
  let c16_i32_4684 : BitVec 32 := 16#32
  let v4451 : BitVec 32 := Scalar.remsi v4450 c16_i32_4684
  let c1_i32_4686 : BitVec 32 := 1#32
  let v4452 : BitVec 32 := Scalar.muli v4451 c1_i32_4686
  let v4453 : BitVec 32 := Scalar.addi c0_i32_4687 v4452
  v4453.toNat
def k0_dev245 (d0 : Dev nD) : Nat :=
  let c0_i32_4696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_4692 : BitVec 32 := 11#32
  let v4462 : BitVec 32 := Scalar.addi v2 c11_i32_4692
  let c16_i32_4693 : BitVec 32 := 16#32
  let v4463 : BitVec 32 := Scalar.remsi v4462 c16_i32_4693
  let c1_i32_4695 : BitVec 32 := 1#32
  let v4464 : BitVec 32 := Scalar.muli v4463 c1_i32_4695
  let v4465 : BitVec 32 := Scalar.addi c0_i32_4696 v4464
  v4465.toNat
def k0_dev246 (d0 : Dev nD) : Nat :=
  let c0_i32_4705 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_4701 : BitVec 32 := 12#32
  let v4474 : BitVec 32 := Scalar.addi v2 c12_i32_4701
  let c16_i32_4702 : BitVec 32 := 16#32
  let v4475 : BitVec 32 := Scalar.remsi v4474 c16_i32_4702
  let c1_i32_4704 : BitVec 32 := 1#32
  let v4476 : BitVec 32 := Scalar.muli v4475 c1_i32_4704
  let v4477 : BitVec 32 := Scalar.addi c0_i32_4705 v4476
  v4477.toNat
def k0_dev247 (d0 : Dev nD) : Nat :=
  let c0_i32_4714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_4710 : BitVec 32 := 13#32
  let v4486 : BitVec 32 := Scalar.addi v2 c13_i32_4710
  let c16_i32_4711 : BitVec 32 := 16#32
  let v4487 : BitVec 32 := Scalar.remsi v4486 c16_i32_4711
  let c1_i32_4713 : BitVec 32 := 1#32
  let v4488 : BitVec 32 := Scalar.muli v4487 c1_i32_4713
  let v4489 : BitVec 32 := Scalar.addi c0_i32_4714 v4488
  v4489.toNat
def k0_dev248 (d0 : Dev nD) : Nat :=
  let c0_i32_4723 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_4719 : BitVec 32 := 14#32
  let v4498 : BitVec 32 := Scalar.addi v2 c14_i32_4719
  let c16_i32_4720 : BitVec 32 := 16#32
  let v4499 : BitVec 32 := Scalar.remsi v4498 c16_i32_4720
  let c1_i32_4722 : BitVec 32 := 1#32
  let v4500 : BitVec 32 := Scalar.muli v4499 c1_i32_4722
  let v4501 : BitVec 32 := Scalar.addi c0_i32_4723 v4500
  v4501.toNat
def k0_dev249 (d0 : Dev nD) : Nat :=
  let c0_i32_4731 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v4510 : BitVec 32 := Scalar.addi v2 c15_i32
  let c16_i32_4728 : BitVec 32 := 16#32
  let v4511 : BitVec 32 := Scalar.remsi v4510 c16_i32_4728
  let c1_i32_4730 : BitVec 32 := 1#32
  let v4512 : BitVec 32 := Scalar.muli v4511 c1_i32_4730
  let v4513 : BitVec 32 := Scalar.addi c0_i32_4731 v4512
  v4513.toNat
def k0_off7 (d0 : Dev nD) (c1_i32_4737 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4736 : BitVec 32 := 16#32
  let v4522 : BitVec 32 := Scalar.addi v2 c16_i32_4736
  let v4523 : BitVec 32 := Scalar.subi v4522 c1_i32_4737
  let c16_i32_4738 : BitVec 32 := 16#32
  let v4524 : BitVec 32 := Scalar.remsi v4523 c16_i32_4738
  ![v4524.toNat]
def k0_off8 (d0 : Dev nD) (c1_i32_4737 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_4736 : BitVec 32 := 16#32
  let v4522 : BitVec 32 := Scalar.addi v2 c16_i32_4736
  let v4523 : BitVec 32 := Scalar.subi v4522 c1_i32_4737
  let c16_i32_4738 : BitVec 32 := 16#32
  let v4524 : BitVec 32 := Scalar.remsi v4523 c16_i32_4738
  let c0_i32_4742 : BitVec 32 := 0#32
  let c0_i32_4743 : BitVec 32 := 0#32
  ![v4524.toNat, 0, 0]
def k0_dev250 (d0 : Dev nD) : Nat :=
  let c0_i32_4989 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let v5 : BitVec 32 := Scalar.remsi v4 c16_i32_2
  let c1_i32_4988 : BitVec 32 := 1#32
  let v4795 : BitVec 32 := Scalar.muli v5 c1_i32_4988
  let v4796 : BitVec 32 := Scalar.addi c0_i32_4989 v4795
  v4796.toNat
def k0_dev251 (d0 : Dev nD) : Nat :=
  let c0_i32_4992 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_3 : BitVec 32 := 1#32
  let v6 : BitVec 32 := Scalar.addi v2 c1_i32_3
  let c16_i32_4 : BitVec 32 := 16#32
  let v7 : BitVec 32 := Scalar.remsi v6 c16_i32_4
  let c1_i32_4991 : BitVec 32 := 1#32
  let v4797 : BitVec 32 := Scalar.muli v7 c1_i32_4991
  let v4798 : BitVec 32 := Scalar.addi c0_i32_4992 v4797
  v4798.toNat
abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_cst_2 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Proof.KernelIdeal.Prog.lean ====
/- The kernel's body written as a program over channels and hops.

   The printed body is one straight line of some fourteen hundred memory operations. It repeats one pattern: the
   result's eight column blocks ("channels", four travelling right round the ring and four travelling left) each pass
   a partial sum from device to device, fifteen hops. Here the pattern is written once for a channel and a hop, the
   whole body is the iteration of it, and `body_eq` says that the printed body is exactly this program. -/
module

public import proofs.«01_k».proof.Proof.Gen.KernelIdeal.Skeleton
public import proofs.«01_k».proof.Proof.Gen.KernelIdeal.Points
public import Idealize.ShloMosaic.Lib.Tactic

@[expose] public section

set_option synthInstance.maxSize 4096

noncomputable section

namespace Cert.KernelIdeal.Hand

open Idealize.ShloMosaic Idealize.SL.Sem Cert.KernelIdeal Cert.KernelIdeal.Gen

variable {F : FTy → Type} [FloatOps F]

/-- A program of one core of this kernel. -/
abbrev P (F : FTy → Type) [FloatOps F] := Prog (TpuEff nD τ sig (Elt F) Λ₀ .tc) PUnit

/-- The eight channels, in the order the program serves them: `r` travels right, `l` left. -/
inductive Ch | r0 | l0 | r1 | l1 | r2 | l2 | r3 | l3
deriving DecidableEq

namespace Ch

/-- Whether a channel travels left. -/
def left : Ch → Bool
  | r0 | r1 | r2 | r3 => false
  | l0 | l1 | l2 | l3 => true

/-- The channel's direction as a row of the semaphore arrays. -/
def dd : Ch → ℕ
  | r0 | r1 | r2 | r3 => 0
  | l0 | l1 | l2 | l3 => 1

/-- The channel's column of the semaphore arrays. -/
def jj : Ch → ℕ
  | r0 | l0 => 0
  | r1 | l1 => 1
  | r2 | l2 => 2
  | r3 | l3 => 3

/-- The first column of the channel's block. -/
def lo : Ch → ℕ
  | r0 => 0 | l0 => 4096 | r1 => 1024 | l1 => 5120 | r2 => 2048 | l2 => 6144 | r3 => 3072 | l3 => 7168

/-- The channel's place in the order. -/
def ix : Ch → ℕ
  | r0 => 0 | l0 => 1 | r1 => 2 | l1 => 3 | r2 => 4 | l2 => 5 | r3 => 6 | l3 => 7

/-- The channel at a place. -/
def at' : ℕ → Ch
  | 0 => r0 | 1 => l0 | 2 => r1 | 3 => l1 | 4 => r2 | 5 => l2 | 6 => r3 | _ => l3

end Ch

/-- The channel's send buffer. -/
def sM : Ch → Memref sig .tc .vmem S256x1024 .bf16
  | .r0 => Memref.whole cc0_scratch0 | .l0 => Memref.whole cc0_scratch4
  | .r1 => Memref.whole cc0_scratch1 | .l1 => Memref.whole cc0_scratch5
  | .r2 => Memref.whole cc0_scratch2 | .l2 => Memref.whole cc0_scratch6
  | .r3 => Memref.whole cc0_scratch3 | .l3 => Memref.whole cc0_scratch7

/-- The channel's receive buffer. -/
def rM : Ch → Memref sig .tc .vmem S256x1024 .bf16
  | .r0 => Memref.whole cc0_scratch8 | .l0 => Memref.whole cc0_scratch12
  | .r1 => Memref.whole cc0_scratch9 | .l1 => Memref.whole cc0_scratch13
  | .r2 => Memref.whole cc0_scratch10 | .l2 => Memref.whole cc0_scratch14
  | .r3 => Memref.whole cc0_scratch11 | .l3 => Memref.whole cc0_scratch15

theorem hS (k : Ch) : (sM k).IsWhole := by cases k <;> exact Memref.isWhole_whole _
theorem hR (k : Ch) : (rM k).IsWhole := by cases k <;> exact Memref.isWhole_whole _

theorem inbSem (k : Ch) : ∀ a, (![k.dd, k.jj] : Fin 2 → ℕ) a + S1x1.size a ≤ S2x4.size a := by
  cases k <;> decide

/-- The channel's semaphores: its transfer has left, its message has arrived, its slot is free. -/
def sSem (k : Ch) : DmaSem sig :=
  ((cc0_scratch16.slice (Rect.unit (s := S2x4) ![k.dd, k.jj] S1x1.size (inbSem k))).squeeze S_ squeezes_S1x1_S_).sem
def rSem (k : Ch) : DmaSem sig :=
  ((cc0_scratch17.slice (Rect.unit (s := S2x4) ![k.dd, k.jj] S1x1.size (inbSem k))).squeeze S_ squeezes_S1x1_S_).sem
def cSem (k : Ch) : Sem sig :=
  ((cc0_scratch18.slice (Rect.unit (s := S2x4) ![k.dd, k.jj] S1x1.size (inbSem k))).squeeze S_ squeezes_S1x1_S_).sem

/-- The neighbour on the right, and on the left, as the kernel computes it. -/
def rightOf (d0 : Dev nD) : Dev nD := ⟨k0_dev2 d0, k0_dev2_lt d0⟩
def leftOf (d0 : Dev nD) : Dev nD := ⟨k0_dev1 d0, k0_dev1_lt d0⟩

/-- Whom the channel sends to, and whom it receives from. -/
def tgt (k : Ch) (d0 : Dev nD) : Dev nD := match k.left with | false => rightOf d0 | true => leftOf d0
def peer (k : Ch) (d0 : Dev nD) : Dev nD := match k.left with | false => leftOf d0 | true => rightOf d0

/-- Where the channel's rows of the left operand start at a hop. -/
def xOff (k : Ch) (d0 : Dev nD) (r : Fin 15) : Fin 2 → ℕ :=
  match k.left with
  | false => k0_off1 d0 (BitVec.ofNat 32 r.val)
  | true => k0_off2 d0 (BitVec.ofNat 32 r.val)

theorem xOff_inb (k : Ch) (d0 : Dev nD) (r : Fin 15) : ∀ a, xOff k d0 r a + S256x256.size a ≤ S4096x256.size a := by
  cases k
  exacts [k0_off1_inb d0 r, k0_off2_inb d0 r, k0_off1_inb d0 r, k0_off2_inb d0 r, k0_off1_inb d0 r, k0_off2_inb d0 r,
    k0_off1_inb d0 r, k0_off2_inb d0 r]

theorem wInb (k : Ch) : ∀ a, (![0, k.lo] : Fin 2 → ℕ) a + S256x1024.size a ≤ S256x8192.size a := by
  cases k <;> decide

/-- The rows of the left operand at a hop; the channel's columns of the right operand and of the result; a whole
    message buffer. -/
def xRect (k : Ch) (d0 : Dev nD) (r : Fin 15) : Rect S4096x256 :=
  Rect.unit (s := S4096x256) (xOff k d0 r) S256x256.size (xOff_inb k d0 r)
def xFin (d0 : Dev nD) : Rect S4096x256 :=
  Rect.unit (s := S4096x256) (k0_off3 d0) S256x256.size (k0_off3_inb d0)
def wRect (k : Ch) : Rect S256x8192 := Rect.unit (s := S256x8192) ![0, k.lo] S256x1024.size (wInb k)
def bRect : Rect S256x1024 := Rect.unit (s := S256x1024) ![0, 0] S256x1024.size inb_S256x1024_S256x1024_0_0

/-- The first message of a channel: a block product, rounded. -/
def msg0 (x : Vec F S256x256 .bf16) (w : Vec F S256x1024 .bf16) : FVec F S256x1024 .bf16 := k0_pay1 x w
/-- A later message: a block product and what arrived, added and rounded. -/
def msgS (x : Vec F S256x256 .bf16) (w : Vec F S256x1024 .bf16) (r : Vec F S256x1024 .bf16) : FVec F S256x1024 .bf16 :=
  k0_pay10 x w r
/-- The result's block before quantisation. -/
def yOf (x : Vec F S256x256 .bf16) (w : Vec F S256x1024 .bf16) (r : Vec F S256x1024 .bf16) : FVec F S256x1024 .f32 :=
  k0_pay177 x w r
/-- The running maximum of absolute values. -/
def mx (p : F .f32) (x : Vec F S256x256 .bf16) (w : Vec F S256x1024 .bf16) (r : Vec F S256x1024 .bf16) : F .f32 :=
  k0_pay180 p x w r
/-- What the running maximum starts at. -/
def mx0 : F .f32 := Scalar.ofBits .f32 0x00000000#32
/-- A device's row of the table of maxima. -/
def rowOf (p : F .f32) : FVec F S1x8x128 .f32 :=
  shapeCast S1x8x128 (broadcast S8x128 p) shapeCasts_S8x128_S1x8x128

section

variable (xM : Memref sig .tc .vmem S4096x256 .bf16) (wM : Memref sig .tc .vmem S256x8192 .bf16)
  (oM : Memref sig .tc .vmem S256x8192 .f32)

/-- The store of a message into the channel's send buffer. -/
def stM (k : Ch) (v : FVec F S256x1024 .bf16) (K : P F) : P F :=
  .op (.store (sM k) bRect v Finset.univ
    (View.stores_vmem h_S256x1024 ((hS k).storeExact_slice rfl _ packedbf16_S256x1024_S256x1024_0_0) (fun _ => rfl)) (.inl rfl))
    fun _ => K

/-- The transfer of the channel's send buffer into its target's receive buffer. -/
def snd (d0 : Dev nD) (k : Ch) (K : P F) : P F :=
  .op (.enqueueDma (sM k) (.remote (Dev.tc (tgt k d0)) (rM k) (.dma (sSem k))) (.dma (rSem k))
    (hS k).wordExact (hR k).wordExact ⟨⟨rfl, Or.inl rfl⟩, trivial⟩) fun _ => K

/-- The waits for the channel's previous transfer and for its message. -/
def wts (k : Ch) (K : P F) : P F :=
  .op (.waitDma2 (sSem k) (rM k) (sM k) (hR k).wordExact (hS k).wordExact) fun _ =>
  .op (.waitDma2 (rSem k) (sM k) (rM k) (hS k).wordExact (hR k).wordExact) fun _ => K

/-- A channel's first hop. -/
def hop0 (d0 : Dev nD) (k : Ch) (K : P F) : P F :=
  .op (.load xM (xRect k d0 0).toLoadRect (View.loadsAt_vmem h_S256x256)) fun x =>
  .op (.load wM (wRect k).toLoadRect (View.loadsAt_vmem h_S256x1024)) fun w =>
  .op (.load (sM k) bRect.toLoadRect (View.loadsAt_vmem h_S256x1024)) fun _ =>
  stM k (msg0 x w) (snd d0 k K)

/-- A channel's later hop. -/
def hop (d0 : Dev nD) (r : Fin 15) (k : Ch) (K : P F) : P F :=
  wts k <|
  .op (.load xM (xRect k d0 r).toLoadRect (View.loadsAt_vmem h_S256x256)) fun x =>
  .op (.load wM (wRect k).toLoadRect (View.loadsAt_vmem h_S256x1024)) fun w =>
  .op (.load (rM k) bRect.toLoadRect (View.loadsAt_vmem h_S256x1024)) fun v =>
  .op (.load (sM k) bRect.toLoadRect (View.loadsAt_vmem h_S256x1024)) fun _ =>
  stM k (msgS x w v) <|
  .op (.semSignal ((peer k d0 : Dev nD), Proc.tc) (cSem k) (1#32).toInt) fun _ =>
  .op (.semWait (cSem k) (1#32).toInt) fun _ =>
  snd d0 k K

/-- A channel's last step: the result's block, and the running maximum. -/
def fin (d0 : Dev nD) (k : Ch) (p : F .f32) (K : F .f32 → P F) : P F :=
  wts k <|
  .op (.load xM (xFin d0).toLoadRect (View.loadsAt_vmem h_S256x256)) fun x =>
  .op (.load wM (wRect k).toLoadRect (View.loadsAt_vmem h_S256x1024)) fun w =>
  .op (.load (rM k) bRect.toLoadRect (View.loadsAt_vmem h_S256x1024)) fun v =>
  .op (.load oM (wRect k).toLoadRect (View.loadsAt_vmem h_S256x1024)) fun _ =>
  .op (.store oM (wRect k) (yOf x w v) Finset.univ (View.stores_vmem_bits_univ h_S256x1024 rfl) (.inl rfl)) fun _ =>
  K (mx p x w v)

/-- `n` first hops from channel `i` on. -/
def hops0 (d0 : Dev nD) : ℕ → ℕ → P F → P F
  | 0, _, K => K
  | n + 1, i, K => hop0 xM wM d0 (Ch.at' i) (hops0 d0 n (i + 1) K)

/-- `n` later hops from position `q` on: position `8 r + i` is channel `i` at hop `r`. -/
def hops (d0 : Dev nD) : ℕ → ℕ → P F → P F
  | 0, _, K => K
  | n + 1, q, K => hop xM wM d0 ⟨q / 8 % 15, Nat.mod_lt _ (by decide)⟩ (Ch.at' (q % 8)) (hops d0 n (q + 1) K)

/-- `n` last steps from channel `i` on. -/
def fins (d0 : Dev nD) : ℕ → ℕ → F .f32 → (F .f32 → P F) → P F
  | 0, _, p, K => K p
  | n + 1, i, p, K => fin xM wM oM d0 (Ch.at' i) p fun p' => fins d0 n (i + 1) p' K

end

/-! ## The table of maxima -/

/-- The table. -/
abbrev aM : Memref sig .tc .vmem S16x8x128 .f32 := Memref.whole cc0_scratch19

/-- The device `o` places to the right, as the kernel computes it. -/
def aDevN (d0 : Dev nD) (o : BitVec 32) : ℕ :=
  (Scalar.addi 0#32 (Scalar.muli (Scalar.remsi (Scalar.addi (Scalar.remsi (Scalar.divsi (Dev.word d0) 1#32) 16#32) o)
    16#32) 1#32)).toNat

theorem aDevN_eq : ∀ d0 : Dev nD, ∀ o : Fin 15, aDevN d0 (BitVec.ofNat 32 (1 + o.val)) = (d0.val + (o.val + 1)) % 16 := by
  decide +kernel

theorem aDevN_lt (d0 : Dev nD) (o : Fin 15) : aDevN d0 (BitVec.ofNat 32 (1 + o.val)) < nD := by
  rw [aDevN_eq]; exact Nat.mod_lt _ (by decide)

def aDev (d0 : Dev nD) (o : Fin 15) : Dev nD := ⟨aDevN d0 (BitVec.ofNat 32 (1 + o.val)), aDevN_lt d0 o⟩

theorem inbA (o : Fin 15) : ∀ a, (![1 + o.val] : Fin 1 → ℕ) a + S1.size a ≤ S16.size a := by
  revert o; decide

/-- The semaphores of the table's transfers: the `o`-th send of this device, the row arriving on the target, and the
    row arriving here from `o + 1` places to the left. -/
def asSem (o : Fin 15) : DmaSem sig :=
  ((cc0_scratch20.slice (Rect.unit (s := S16) ![1 + o.val] S1.size (inbA o))).squeeze S_ squeezes_S1_S_).sem
def arSem (d0 : Dev nD) : DmaSem sig :=
  ((cc0_scratch21.slice (Rect.unit (s := S16) (k0_off5 d0) S1.size (k0_off5_inb d0))).squeeze S_ squeezes_S1_S_).sem
def awSem (d0 : Dev nD) (o : Fin 15) : DmaSem sig :=
  ((cc0_scratch21.slice (Rect.unit (s := S16) (k0_off7 d0 (BitVec.ofNat 32 (1 + o.val))) S1.size (k0_off7_inb d0 o))).squeeze
    S_ squeezes_S1_S_).sem

/-- This device's row of the table, for a store and for a transfer, and the row of the device `o + 1` places to the left. -/
def aRect (d0 : Dev nD) : Rect S16x8x128 := Rect.unit (s := S16x8x128) (k0_off4 d0) S1x8x128.size (k0_off4_inb d0)
def rowM (d0 : Dev nD) : Memref sig .tc .vmem S8x128 .f32 :=
  (aM.slice (Rect.unit (s := S16x8x128) (k0_off6 d0) S1x8x128.size (k0_off6_inb d0)) (fun _ => rfl)).squeeze S8x128
    squeezes_S1x8x128_S8x128
def rowW (d0 : Dev nD) (o : Fin 15) : Memref sig .tc .vmem S8x128 .f32 :=
  (aM.slice (Rect.unit (s := S16x8x128) (k0_off8 d0 (BitVec.ofNat 32 (1 + o.val))) S1x8x128.size (k0_off8_inb d0 o))
    (fun _ => rfl)).squeeze S8x128 squeezes_S1x8x128_S8x128

theorem hRow (d0 : Dev nD) : (rowM d0).view.WordExact := (View.wordExact_bits rfl).reshape _ _
theorem hRowW (d0 : Dev nD) (o : Fin 15) : (rowW d0 o).view.WordExact := (View.wordExact_bits rfl).reshape _ _

/-- `n` sends of this device's row from the `i`-th on. -/
def aSends (d0 : Dev nD) : ℕ → ℕ → P F → P F
  | 0, _, K => K
  | n + 1, i, K =>
    .op (.enqueueDma (rowM d0) (.remote (Dev.tc (aDev d0 (Fin.ofNat 15 i))) (rowM d0) (.dma (asSem (Fin.ofNat 15 i))))
      (.dma (arSem d0)) (hRow d0) (hRow d0) ⟨⟨rfl, Or.inl rfl⟩, trivial⟩) fun _ => aSends d0 n (i + 1) K

/-- `n` waits for the other devices' rows. -/
def aRecvs (d0 : Dev nD) : ℕ → ℕ → P F → P F
  | 0, _, K => K
  | n + 1, i, K =>
    .op (.waitDma2 (awSem d0 (Fin.ofNat 15 i)) (rowM d0) (rowW d0 (Fin.ofNat 15 i)) (hRow d0) (hRowW d0 _)) fun _ =>
      aRecvs d0 n (i + 1) K

/-- `n` waits for this device's sends. -/
def aDones (d0 : Dev nD) : ℕ → ℕ → P F → P F
  | 0, _, K => K
  | n + 1, i, K =>
    .op (.waitDma2 (asSem (Fin.ofNat 15 i)) (rowM d0) (rowM d0) (hRow d0) (hRow d0)) fun _ => aDones d0 n (i + 1) K

/-- The whole table, and the whole result. -/
def tabRect : Rect S16x8x128 := Rect.unit (s := S16x8x128) ![0, 0, 0] S16x8x128.size inb_S16x8x128_S16x8x128_0_0_0
def outRect : Rect S256x8192 := Rect.unit (s := S256x8192) ![0, 0] S256x8192.size inb_S256x8192_S256x8192_0_0

section

variable (oM : Memref sig .tc .vmem S256x8192 .f32)

/-- The quantisation of the whole result by the greatest of the maxima. -/
def quant (K : P F) : P F :=
  .op (.load aM tabRect.toLoadRect (View.loadsAt_vmem h_S16x8x128)) fun a =>
  .op (.load oM outRect.toLoadRect (View.loadsAt_vmem h_S256x8192)) fun y =>
  .op (.load oM outRect.toLoadRect (View.loadsAt_vmem h_S256x8192)) fun _ =>
  .op (.store oM outRect (k0_pay194 a y) Finset.univ (View.stores_vmem_bits_univ h_S256x8192 rfl) (.inl rfl)) fun _ => K

/-- The devices part: a signal to each neighbour and a wait for both. -/
def part (d0 : Dev nD) (s : Sem sig) (K : P F) : P F :=
  .op (.semSignal ((leftOf d0 : Dev nD), Proc.tc) s (1#32).toInt) fun _ =>
  .op (.semSignal ((rightOf d0 : Dev nD), Proc.tc) s (1#32).toInt) fun _ =>
  .op (.semWait s (2#32).toInt) fun _ => K

/-- The table's part of the program. -/
def table (d0 : Dev nD) (p : F .f32) : P F :=
  .op (.load aM (aRect d0).toLoadRect (View.loadsAt_vmem h_S1x8x128)) fun _ =>
  .op (.store aM (aRect d0) (rowOf p) Finset.univ (View.stores_vmem_bits_univ h_S1x8x128 rfl) (.inl rfl)) fun _ =>
  aSends d0 15 0 <| aRecvs d0 15 0 <| quant oM <| aDones d0 15 0 <| part d0 cc0_scratch22.sem (.ret ⟨⟩)

end

/-- The barrier semaphore. -/
def bSem : Sem sig := (SemArray.scalar (sig.barrier 0 rfl) : Sems sig S_).sem

/-- The whole body on a device. -/
def prog (xM : Memref sig .tc .vmem S4096x256 .bf16) (wM : Memref sig .tc .vmem S256x8192 .bf16)
    (oM : Memref sig .tc .vmem S256x8192 .f32) (d0 : Dev nD) : P F :=
  part d0 bSem <| hops0 xM wM d0 8 0 <| hops xM wM d0 112 8 <| fins xM wM oM d0 8 0 mx0 <| table oM d0

set_option maxRecDepth 1000000 in
set_option maxHeartbeats 0 in
/-- The printed body is this program. -/
theorem body_eq (t : Fin cfg0.N) : bodyAt0 (F := F) t
    = .op .deviceId fun d0 => prog (win0_0.stage (cfg0.slots t 0)) (win0_1.stage (cfg0.slots t 1)) (win0_2.stage (cfg0.slots t 2)) d0 := by
  sl_kernel_rfl

end Cert.KernelIdeal.Hand
-- ==== Proof.KernelIdeal.Proto.lean ====
/- The agreement between the devices: which semaphore is paid by whom, in which round, and what changes hands.

   Every semaphore the kernel counts with is a "cell" of a device. A channel has three: its transfer has left (`s`),
   its message has arrived (`r`), its receive buffer at the target is free again (`c`). The barrier and the exit
   semaphore are paid once by each neighbour, and the table of maxima has a cell per transfer sent and per row received.
   A message carries, beside the partial sum, the right to send the next one; the messages of the first right-going
   channel also carry the rows of the tables of maxima to the devices that will fill them. -/
module

public import proofs.«01_k».proof.Proof.KernelIdeal.Prog
public import proofs.«01_k».proof.Proof.Gen.KernelIdeal.Launch
public import Idealize.ShloMosaic.Lib.Pipeline.Launch
public import Idealize.ShloMosaic.Lib.Pipeline.Kit

@[expose] public section

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The devices -/

/-- The device `i` places to the right. -/
def fw (c : Dev nD) (i : ℕ) : Dev nD := ⟨(c.val + i) % 16, Nat.mod_lt _ (by decide)⟩
/-- The device `i` places to the left. -/
def bk (c : Dev nD) (i : ℕ) : Dev nD := ⟨(c.val + 15 * i) % 16, Nat.mod_lt _ (by decide)⟩

theorem dev_lt (c : Dev nD) : c.val < 16 := c.isLt

theorem rightOf_eq (c : Dev nD) : rightOf c = fw c 1 := Fin.ext (k0_dev2_eq c)
theorem leftOf_eq (c : Dev nD) : leftOf c = bk c 1 := Fin.ext (k0_dev1_eq c)

theorem fw_bk (c : Dev nD) (i : ℕ) : fw (bk c i) i = c :=
  Fin.ext (by have := dev_lt c; simp only [fw, bk]; omega)
theorem bk_fw (c : Dev nD) (i : ℕ) : bk (fw c i) i = c :=
  Fin.ext (by have := dev_lt c; simp only [fw, bk]; omega)
theorem bk_bk (c : Dev nD) (i j : ℕ) : bk (bk c i) j = bk c (i + j) :=
  Fin.ext (by simp only [bk]; omega)
theorem bk_zero (c : Dev nD) : bk c 0 = c :=
  Fin.ext (by have := dev_lt c; simp only [bk]; omega)
theorem bk_16 (c : Dev nD) : bk c 16 = c :=
  Fin.ext (by have := dev_lt c; simp only [bk]; omega)
theorem fw_of_bk (c : Dev nD) (i : ℕ) (h : i ≤ 16) : bk c (16 - i) = fw c i :=
  Fin.ext (by have := dev_lt c; simp only [bk, fw]; omega)

theorem right_left (c : Dev nD) : rightOf (leftOf c) = c := by rw [rightOf_eq, leftOf_eq, fw_bk]
theorem left_right (c : Dev nD) : leftOf (rightOf c) = c := by rw [rightOf_eq, leftOf_eq, bk_fw]

theorem tgt_peer (k : Ch) (c : Dev nD) : tgt k (peer k c) = c := by
  unfold tgt peer; cases k.left; exacts [right_left c, left_right c]
theorem peer_tgt (k : Ch) (c : Dev nD) : peer k (tgt k c) = c := by
  unfold tgt peer; cases k.left; exacts [left_right c, right_left c]

/-! ## The cells -/

/-- A channel's three cells. -/
inductive KK | s | r | c
deriving DecidableEq

instance : Fintype Ch := ⟨{.r0, .l0, .r1, .l1, .r2, .l2, .r3, .l3}, fun k => by cases k <;> decide⟩
instance : Fintype KK := ⟨{.s, .r, .c}, fun k => by cases k <;> decide⟩

/-- The kernel's own semaphores: exit, the channels', the table's sends, the table's rows. -/
abbrev CO : Type := Unit ⊕ ((KK × Ch) ⊕ (Fin 15 ⊕ Dev nD))
/-- All of them, the barrier's (`false`) beside the exit's (`true`). -/
abbrev CK : Type := Bool ⊕ ((KK × Ch) ⊕ (Fin 15 ⊕ Dev nD))

@[match_pattern] abbrev kBar : CK := .inl false
@[match_pattern] abbrev kExit : CK := .inl true
@[match_pattern] abbrev kS (k : Ch) : CK := .inr (.inl (.s, k))
@[match_pattern] abbrev kR (k : Ch) : CK := .inr (.inl (.r, k))
@[match_pattern] abbrev kC (k : Ch) : CK := .inr (.inl (.c, k))
@[match_pattern] abbrev kAs (o : Fin 15) : CK := .inr (.inr (.inl o))
@[match_pattern] abbrev kAr (s : Dev nD) : CK := .inr (.inr (.inr s))

/-- The semaphores the channels and the table use. -/
def rest : ((KK × Ch) ⊕ (Fin 15 ⊕ Dev nD)) → SemLoc sig
  | .inl (.s, k) => .dma (sSem k)
  | .inl (.r, k) => .dma (rSem k)
  | .inl (.c, k) => .reg (cSem k)
  | .inr (.inl o) => .dma (asSem o)
  | .inr (.inr s) => .dma (arSem s)

/-- A cell's semaphore. -/
def csem : CK → SemLoc sig
  | .inl false => .reg bSem
  | .inl true => .reg cc0_scratch22.sem
  | .inr x => rest x

def osem : CO → SemLoc sig
  | .inl _ => .reg cc0_scratch22.sem
  | .inr x => rest x

theorem csem_inj : Function.Injective csem := by
  have h : ∀ a b : CK, csem a = csem b → a = b := by decide +kernel
  exact fun a b => h a b

open Classical in
/-- Which cell a semaphore is. -/
def kindOf (s : SemLoc sig) : Option CK := if h : ∃ k, csem k = s then some h.choose else none

theorem kindOf_csem (k : CK) : kindOf (csem k) = some k := by
  have h : ∃ k', csem k' = csem k := ⟨k, rfl⟩
  rw [kindOf, dif_pos h]; exact congrArg some (csem_inj h.choose_spec)

theorem kindOf_none {s : SemLoc sig} (h : ∀ k, csem k ≠ s) : kindOf s = none :=
  dif_neg fun ⟨k, hk⟩ => h k hk

/-- The cell of device `c`. -/
def cell (c : Dev nD) (k : CK) : GSem nD τ sig := ((c : Thread nD τ), csem k)

theorem cell_inj : Function.Injective fun p : Dev nD × CK => cell p.1 p.2 := by
  rintro ⟨c, k⟩ ⟨c', k'⟩ h
  have h1 : c = c' := congrArg (fun g : GSem nD τ sig => g.1.1) h
  have h2 : k = k' := csem_inj (congrArg (fun g : GSem nD τ sig => g.2) h)
  rw [h1, h2]

/-! ## Sizes -/

/-- A message's credit, and a row's. -/
def NB : ℕ := (rM .r0).view.dmaCredit
def NA : ℕ := (rowM 0).view.dmaCredit

theorem credit_r (k : Ch) : (rM k).view.dmaCredit = NB := by cases k <;> rfl
theorem credit_s (k : Ch) : (sM k).view.dmaCredit = NB := by cases k <;> rfl
theorem credit_row (c : Dev nD) : (rowM c).view.dmaCredit = NA := rfl
theorem credit_rowW (c : Dev nD) (o : Fin 15) : (rowW c o).view.dmaCredit = NA := rfl
theorem NB_pos : 0 < NB := View.dmaCredit_pos _ (by decide)
theorem NA_pos : 0 < NA := View.dmaCredit_pos _ (by decide)

/-- Units of a cell's one payment. -/
def amt : CK → ℕ
  | .inl _ => 1
  | .inr (.inl (.c, _)) => 1
  | .inr (.inl (.s, _)) => NB
  | .inr (.inl (.r, _)) => NB
  | .inr (.inr _) => NA

theorem amt_pos (k : CK) : 0 < amt k := by
  rcases k with b | ⟨⟨⟩, k⟩ | x <;> first | exact Nat.one_pos | exact NB_pos | exact NA_pos

/-- The payments a cell of device `c` gets in a round. -/
def dut : CK → Dev nD → ℕ → Finset Bool
  | .inl _, _, r => if r = 0 then Finset.univ else ∅
  | .inr (.inl (.s, _)), _, r => if r < 15 then {false} else ∅
  | .inr (.inl (.r, _)), _, r => if r < 15 then {false} else ∅
  | .inr (.inl (.c, _)), _, r => if r < 14 then {false} else ∅
  | .inr (.inr (.inl _)), _, r => if r = 0 then {false} else ∅
  | .inr (.inr (.inr s)), c, r => if r = 0 ∧ c ≠ s then {false} else ∅

/-! ## Buffers -/

/-- A buffer held, whatever it holds. -/
def owC (c : Dev nD) (M : Memref sig .tc .vmem S256x1024 .bf16) : sProp 𝕄 :=
  iprop(∃ X, owns (c : Thread nD τ) M fullShare X)

/-- Device `s`'s row of device `e`'s table, at a share. -/
def rowP (e s : Dev nD) (q : PosShare TreeShare) (f : Buf (Elt F) ((rowM s).view.loc (e : Thread nD τ))) : sProp 𝕄 :=
  (rowM s).view.loc (e : Thread nD τ) ↦[(rowM s).view.set]{q} f
/-- The same, whatever it holds. -/
def rowE (e s : Dev nD) : sProp 𝕄 := iprop(∃ f, rowP (F := F) e s fullShare f)

/-- What the `h`-th message of the first right-going channel of device `c` carries besides: device `c - 1 - h`'s row of
    the tables of the devices `c - h` to `c`. -/
def rows (k : Ch) (c : Dev nD) (h : ℕ) : sProp 𝕄 :=
  if k = .r0 then bigSep (Finset.range (h + 1)) fun j => rowE (F := F) (bk c (h - j)) (bk c (h + 1)) else iprop(emp)

/-- The shares of its own row a device lends to its sends one after another, and what it keeps. -/
def keep : ℕ → PosShare TreeShare
  | 0 => fullShare
  | n + 1 => (keep n).right
def lend (n : ℕ) : PosShare TreeShare := (keep n).left

/-- The full table: device `s`'s row holds its maximum throughout. -/
def Tab (Pm : Dev nD → F .f32) : (cc0_scratch19 : Ref sig .tc).ty.Contents (Elt F) := fun i : S16x8x128.Idx => Pm ⟨(i 0).val, (i 0).isLt⟩

instance owC_storable (c : Dev nD) (M) : BI.Storable (upEmb : UEmb _ 𝕄) (owC (F := F) c M) := by unfold owC; infer_instance
instance rowP_storable (e s : Dev nD) (q) (f) : BI.Storable (upEmb : UEmb _ 𝕄) (rowP (F := F) e s q f) := by
  unfold rowP; infer_instance
/-- The same, at the full table. -/
def rowT (Pm : Dev nD → F .f32) (e s : Dev nD) (q : PosShare TreeShare) : sProp 𝕄 := rowP e s q (Tab Pm)
instance rowT_storable (Pm : Dev nD → F .f32) (e s : Dev nD) (q) : BI.Storable (upEmb : UEmb _ 𝕄) (rowT Pm e s q) :=
  rowP_storable e s q _
instance rowE_storable (e s : Dev nD) : BI.Storable (upEmb : UEmb _ 𝕄) (rowE (F := F) e s) := by unfold rowE; infer_instance
instance rows_storable (k : Ch) (c : Dev nD) (h : ℕ) : BI.Storable (upEmb : UEmb _ 𝕄) (rows (F := F) k c h) := by
  unfold rows; split <;> infer_instance

/-! ## The schedule, over the messages `A` and the maxima `Pm` -/

section Schedule

variable (A : Ch → ℕ → Dev nD → Vec F S256x1024 .bf16) (Pm : Dev nD → F .f32)

/-- What a payment hands over. -/
def payl : CK → Dev nD → ℕ → Bool → sProp 𝕄
  | .inl false, c, _, d => bigSep (Finset.univ.filter fun k : Ch => k.left = d) fun k => owC (F := F) (tgt k c) (rM k)
  | .inl true, _, _, _ => iprop(emp)
  | .inr (.inl (.s, k)), c, _, _ => owC c (sM k)
  | .inr (.inl (.r, k)), c, h, _ =>
      iprop(owns (c : Thread nD τ) (rM k) fullShare (A k h (peer k c)) ∗ reached ER (cell (peer k c) (kC k)) h
        ∗ rows k (peer k c) h)
  | .inr (.inl (.c, k)), c, h, _ => iprop(owC (tgt k c) (rM k) ∗ reached ER (cell (tgt k c) (kR k)) (h + 1))
  | .inr (.inr (.inl o)), c, _, _ => rowT Pm c c (lend o.val)
  | .inr (.inr (.inr s)), c, _, _ => rowT Pm c s fullShare

instance payl_storable (k : CK) (c : Dev nD) (r : ℕ) (d : Bool) :
    BI.Storable (upEmb : UEmb _ 𝕄) (payl (F := F) A Pm k c r d) := by
  rcases k with (_ | _) | ⟨⟨⟩, k⟩ | o | s <;> (dsimp only [payl]; infer_instance)

def Rd : Rounds.Schedule (GSem nD τ sig) Bool 𝕄 where
  duties g r := (kindOf g.2).elim ∅ fun k => dut k g.1.1 r
  unitless _ := False
  amount g _ _ := (kindOf g.2).elim 1 amt
  payload g r d := (kindOf g.2).elim iprop(emp) fun k => payl A Pm k g.1.1 r d
  amount_pos g _ _ _ := by
    cases kindOf g.2 with
    | none => exact Nat.one_pos
    | some k => exact amt_pos k

instance Rd_storable (g : GSem nD τ sig) (r : ℕ) (d : Bool) :
    BI.Storable (upEmb : UEmb _ 𝕄) ((Rd (F := F) A Pm).payload g r d) := by
  show BI.Storable (upEmb : UEmb _ 𝕄) ((kindOf g.2).elim iprop(emp) fun k => payl A Pm k g.1.1 r d)
  cases kindOf g.2 with
  | none => exact (inferInstance : BI.Storable (upEmb : UEmb _ 𝕄) (iprop(emp) : sProp 𝕄))
  | some k => exact payl_storable A Pm k g.1.1 r d

theorem Rd_duties (c : Dev nD) (k : CK) (r : ℕ) : (Rd (F := F) A Pm).duties (cell c k) r = dut k c r := by
  show (kindOf (csem k)).elim ∅ _ = _; rw [kindOf_csem]; rfl
theorem Rd_amount (c : Dev nD) (k : CK) (r : ℕ) (d : Bool) : (Rd (F := F) A Pm).amount (cell c k) r d = amt k := by
  show (kindOf (csem k)).elim 1 amt = _; rw [kindOf_csem]; rfl
theorem Rd_payload (c : Dev nD) (k : CK) (r : ℕ) (d : Bool) :
    (Rd (F := F) A Pm).payload (cell c k) r d = payl A Pm k c r d := by
  show (kindOf (csem k)).elim iprop(emp) _ = _; rw [kindOf_csem]; rfl

theorem Rd_expect (c : Dev nD) (k : CK) (r : ℕ) : (Rd (F := F) A Pm).expect (cell c k) r = (dut k c r).card * amt k := by
  unfold Schedule.expect Schedule.amountOf
  rw [Rd_duties, Finset.sum_congr rfl fun d _ => Rd_amount A Pm c k r d, Finset.sum_const, smul_eq_mul]

end Schedule

/-! ## The order of payments -/

/-- A payment's place in the order: every device waits for a payment only while what it still owes comes later. -/
def lvl : CK → ℕ → ℕ
  | .inl false, _ => 1
  | .inl true, _ => 400
  | .inr (.inl (.s, _)), _ => 0
  | .inr (.inl (.r, k)), h => 2 * (8 * h + k.ix) + 3
  | .inr (.inl (.c, k)), h => 2 * (8 * (h + 1) + k.ix) + 2
  | .inr (.inr (.inl _)), _ => 0
  | .inr (.inr (.inr _)), _ => 300

def L (g : GSem nD τ sig) : Finset ℕ := if g.1.2 = .tc then Finset.range 16 else ∅
def lv (g : GSem nD τ sig) (ι : ℕ) : ℕ := (kindOf g.2).elim 0 fun k => lvl k ι

theorem L_of_ne (g : GSem nD τ sig) (h : g.1.2 ≠ .tc) : L g = ∅ := if_neg h
theorem mem_L (c : Dev nD) (s : SemLoc sig) (ι : ℕ) (h : ι < 16) : ι ∈ L ((c : Thread nD τ), s) := by
  rw [L, if_pos rfl]; exact Finset.mem_range.mpr h
theorem lv_cell (c : Dev nD) (k : CK) (ι : ℕ) : lv (cell c k) ι = lvl k ι := by
  show (kindOf (csem k)).elim 0 _ = _; rw [kindOf_csem]; rfl

/-- Everything owed comes after `n`. -/
def Above (n : ℕ) (O : CellTallies nD τ sig ℕ) : Prop := ∀ g ι, 0 < O g ι → ι ∈ L g ∧ n < lv g ι

theorem Above.zero (n : ℕ) : Above n 0 := fun g ι h => absurd h (Nat.lt_irrefl 0)
theorem Above.add {n : ℕ} {O O' : CellTallies nD τ sig ℕ} (h : Above n O) (h' : Above n O') : Above n (O + O') := fun g ι hp => by
  rw [Pi.add_apply, Finsupp.add_apply] at hp
  rcases Nat.add_pos_iff_pos_or_pos.mp hp with hp | hp
  exacts [h g ι hp, h' g ι hp]
theorem Above.mono {n n' : ℕ} {O : CellTallies nD τ sig ℕ} (h : Above n O) (hn : n' ≤ n) : Above n' O :=
  fun g ι hp => ⟨(h g ι hp).1, lt_of_le_of_lt hn (h g ι hp).2⟩
theorem Above.tally (c : Dev nD) (k : CK) (ι a n : ℕ) (hι : ι < 16) (hn : n < lvl k ι) : Above n (tallyAt (cell c k) ι a) :=
  fun g i hp => by
    obtain ⟨rfl, rfl⟩ := Pipeline.tallyAt_pos hp
    exact ⟨mem_L c _ _ hι, by rw [lv_cell]; exact hn⟩

theorem mayWait_of (c : Dev nD) (s : SemLoc sig) (ι n : ℕ) (hι : ι < 16) (hs : lv ((c : Thread nD τ), s) ι ≤ n)
    {O : CellTallies nD τ sig ℕ} (hO : Above n O) : (levAts L lv : sProp 𝕄) ⊢ MayWait (c : Thread nD τ) s ι O :=
  MayOwe.of_cut (L := L) (lev := lv) n (fun p hp => by rw [Finset.mem_singleton.mp hp]; exact mem_L c _ _ hι)
    (fun g u hg => (hO g u hg).1) (fun p hp => by rw [Finset.mem_singleton.mp hp]; exact hs) (fun g u hg => (hO g u hg).2)

end Cert.KernelIdeal.Hand
-- ==== Proof.KernelIdeal.Steps.lean ====
/- One step of the program at a time: a wait, a signal, a message sent, and the buffers' loads and stores, each as a
   rule over the cells of `Proto`. -/
module

public import proofs.«01_k».proof.Proof.KernelIdeal.Proto

@[expose] public section

set_option maxRecDepth 4000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

abbrev 𝒱₀ : Variants := Variants.none

/-- The program runs to `Q` on device `c`. -/
abbrev WP (c : Dev nD) (p : P F) (Q : PUnit → sProp 𝕄) : sProp 𝕄 :=
  wp frame (wpE (defs₀ (F := F)) 𝒱₀ (c : Thread nD τ) none) Set.univ p Q

/-- What device `c` still owes. -/
def ow (c : Dev nD) (O : CellTallies nD τ sig ℕ) : sProp 𝕄 := iprop(∃ W, owes (c : Thread nD τ) O W)

/-- The order of payments, known. -/
def lvs : sProp 𝕄 := levAts L lv
instance lvs_persistent : BI.Persistent (lvs (F := F)) := by unfold lvs; infer_instance
theorem mayWait_lvs (c : Dev nD) (k : CK) (ι n : ℕ) (hι : ι < 16) (hs : lvl k ι ≤ n) {O : CellTallies nD τ sig ℕ}
    (hO : Above n O) : lvs (F := F) ⊢ MayWait (c : Thread nD τ) (csem k) ι O :=
  mayWait_of c (csem k) ι n hι (le_of_eq_of_le (lv_cell c k ι) hs) hO

section

variable (A : Ch → ℕ → Dev nD → Vec F S256x1024 .bf16) (Pm : Dev nD → F .f32) (K : Dev nD × CK → ℕ)

/-- What every device knows: every cell's agreement, that it is at round 0, and the order of payments. -/
def recs : sProp 𝕄 :=
  iprop((bigSep Finset.univ fun p : Dev nD × CK => cellInv ER (Rd A Pm) (K p) (cell p.1 p.2))
    ∗ (bigSep Finset.univ fun p : Dev nD × CK => reached ER (cell p.1 p.2) 0) ∗ lvs (F := F))

instance recs_persistent : BI.Persistent (recs A Pm K) := by unfold recs; infer_instance

theorem inv_at (c : Dev nD) (k : CK) : recs A Pm K ⊢ cellInv ER (Rd A Pm) (K (c, k)) (cell c k) := by
  unfold recs; iintro ⟨H, -, -⟩
  iapply (show (bigSep Finset.univ fun p : Dev nD × CK => cellInv ER (Rd A Pm) (K p) (cell p.1 p.2))
    ⊢ cellInv ER (Rd A Pm) (K (c, k)) (cell c k) from bigSep_elim (Finset.mem_univ (c, k))) $$ H
theorem reached_at (c : Dev nD) (k : CK) : recs A Pm K ⊢ reached ER (cell c k) 0 := by
  unfold recs; iintro ⟨-, H, -⟩
  iapply (show (bigSep Finset.univ fun p : Dev nD × CK => (reached ER (cell p.1 p.2) 0 : sProp 𝕄))
    ⊢ reached ER (cell c k) 0 from bigSep_elim (Finset.mem_univ (c, k))) $$ H
theorem lvs_at : recs A Pm K ⊢ lvs (F := F) := by
  unfold recs; iintro ⟨-, -, H⟩; iexact H

/-- A wait for all of a round of a cell of the device's own. -/
theorem wp_wait (c : Dev nD) (ck : CK) (r a : ℕ) {w : TpuEff nD τ sig (Elt F) Λ₀ .tc PUnit}
    (hw : ∀ Q : PUnit → sProp 𝕄, wpE (defs₀ (F := F)) 𝒱₀ (c : Thread nD τ) none Set.univ w Q
      = waitSpec (c : Thread nD τ) Set.univ (csem ck) a Q)
    (ha : (dut ck c r).card * amt ck = a) (hr : r < 16) (n : ℕ) (hn : lvl ck r ≤ n)
    {O : CellTallies nD τ sig ℕ} (hO : Above n O) {p : PUnit → P F} {Q : PUnit → sProp 𝕄} :
    iprop(recs A Pm K ∗ cred (tallyAt (cell c ck) r a) ∗ ow c O ∗ atPos ER (cell c ck) r ∅ 0)
      ⊢ iprop(((ow c O ∗ atPos ER (cell c ck) (r + 1) ∅ 0 ∗ reached ER (cell c ck) (r + 1)
              ∗ bigSep (dut ck c r) fun d => payl A Pm ck c r d) -∗ WP c (p ⟨⟩) Q) -∗ WP c (.op w p) Q) := by
  iintro ⟨#HR, Hc, HO, Hat⟩ Hk
  unfold ow
  icases HO with ⟨%W, HO⟩
  iapply (Rounds.wp_wait_rest_token 𝒱₀ ER (Rd A Pm) (c : Thread nD τ) none (κ := K (c, ck)) (sm := csem ck) (k' := a)
      hw (Set.mem_univ _) r (O := O) (W := W) (R := r) (m := 0) (T := ∅)
      (by rw [Nat.zero_add, ← ha]; exact (Rd_expect A Pm c ck r).symm)) $$ [Hc HO Hat]
  · isplitr; · iapply (inv_at A Pm K c ck); iexact HR
    isplitl [Hc]; · iexact Hc
    isplitl [HO]; · iexact HO
    isplitr
    · iapply (mayWait_lvs c ck r n hr hn hO); iapply (@lvs_at F _ A Pm K); iexact HR
    iexact Hat
  iintro ⟨HO, Hat, Hr, Hp⟩
  iapply Hk
  isplitl [HO]; · iexists _; iexact HO
  isplitl [Hat]; · iexact Hat
  isplitl [Hr]; · iexact Hr
  have hp : (bigSep ((Rd A Pm).duties ((c : Thread nD τ), csem ck) r \ ∅)
      fun d => (Rd A Pm).payload ((c : Thread nD τ), csem ck) r d) = bigSep (dut ck c r) fun d => payl A Pm ck c r d := by
    rw [Finset.sdiff_empty]
    exact (congrArg (bigSep · _) (Rd_duties A Pm c ck r)).trans (bigSep_congr fun d _ => Rd_payload A Pm c ck r d)
  rw [← hp]; iexact Hp

/-- The same, of a round of one payment. -/
theorem wp_wait1 (c : Dev nD) (ck : CK) (r a : ℕ) {w : TpuEff nD τ sig (Elt F) Λ₀ .tc PUnit}
    (hw : ∀ Q : PUnit → sProp 𝕄, wpE (defs₀ (F := F)) 𝒱₀ (c : Thread nD τ) none Set.univ w Q
      = waitSpec (c : Thread nD τ) Set.univ (csem ck) a Q)
    (hd : dut ck c r = {false}) (ha : amt ck = a) (hr : r < 16) (n : ℕ) (hn : lvl ck r ≤ n)
    {O : CellTallies nD τ sig ℕ} (hO : Above n O) {p : PUnit → P F} {Q : PUnit → sProp 𝕄} :
    iprop(recs A Pm K ∗ cred (tallyAt (cell c ck) r a) ∗ ow c O ∗ atPos ER (cell c ck) r ∅ 0)
      ⊢ iprop(((ow c O ∗ atPos ER (cell c ck) (r + 1) ∅ 0 ∗ reached ER (cell c ck) (r + 1)
              ∗ payl A Pm ck c r false) -∗ WP c (p ⟨⟩) Q) -∗ WP c (.op w p) Q) := by
  have h := wp_wait A Pm K c ck r a hw (by rw [hd, Finset.card_singleton, Nat.one_mul]; exact ha) hr n hn hO (p := p) (Q := Q)
  rw [hd, bigSep_singleton] at h
  exact h

/-- A signal to a cell of another device. -/
theorem wp_sig (c e : Dev nD) (ck : CK) (s : Sem sig) (hs : csem ck = .reg s) (r : ℕ) (d : Bool) (hd : d ∈ dut ck e r)
    (ha : amt ck = 1) (O : CellTallies nD τ sig ℕ) {p : PUnit → P F} {Q : PUnit → sProp 𝕄} :
    iprop(recs A Pm K ∗ ow c (tallyAt (cell e ck) r 1 + O) ∗ dutyTok ER (cell e ck) r d ∗ payl A Pm ck e r d
        ∗ reached ER (cell e ck) r)
      ⊢ iprop((ow c O -∗ WP c (p ⟨⟩) Q) -∗ WP c (.op (.semSignal ((e : Dev nD), Proc.tc) s (1#32).toInt) p) Q) := by
  iintro ⟨#HR, HO, Ht, Hp, Hr⟩ Hk
  unfold ow
  icases HO with ⟨%W, HO⟩
  have hcell : (((e : Dev nD), Proc.tc), SemLoc.reg s) = cell e ck := by rw [cell, hs]
  iapply (Rounds.wp_signal 𝒱₀ ER (Rd A Pm) (c : Thread nD τ) none (dst := (e : Thread nD τ)) (κ := K (e, ck)) (r := r)
      (d := d) (by rw [show (((e : Dev nD) : Thread nD τ), SemLoc.reg s) = cell e ck from hcell, Rd_duties]; exact hd)
      (by rw [show (((e : Dev nD) : Thread nD τ), SemLoc.reg s) = cell e ck from hcell, Rd_amount]; exact ha.trans (by decide))
      r O (W := W) (O₀ := tallyAt (cell e ck) r 1 + O)
      (by rw [show (((e : Dev nD) : Thread nD τ), SemLoc.reg s) = cell e ck from hcell]; exact add_comm _ _)) $$ [HO Ht Hp Hr]
  · rw [show (((e : Dev nD) : Thread nD τ), SemLoc.reg s) = cell e ck from hcell]
    isplitr; · iapply (inv_at A Pm K e ck); iexact HR
    isplitl [HO]; · iexact HO
    isplitl [Ht]; · iexact Ht
    isplitl [Hp]; · rw [Rd_payload]; iexact Hp
    iexact Hr
  iintro HO
  iapply Hk
  iexists _; iexact HO

/-- A message sent: its transfer takes the send buffer and the target's receive buffer, and carries the further right
    to the next message. -/
theorem wp_msg (c : Dev nD) (k : Ch) (h : ℕ) (hh : h < 15) (O : CellTallies nD τ sig ℕ) {p : P F} {Q : PUnit → sProp 𝕄} :
    iprop(recs A Pm K ∗ owns (c : Thread nD τ) (sM k) fullShare (A k h c) ∗ owC (tgt k c) (rM k)
        ∗ (reached ER (cell c (kC k)) h ∗ rows k c h) ∗ ow c (tallyAt (cell (tgt k c) (kR k)) h NB + O)
        ∗ dutyTok ER (cell c (kS k)) h false ∗ reached ER (cell c (kS k)) h
        ∗ dutyTok ER (cell (tgt k c) (kR k)) h false ∗ reached ER (cell (tgt k c) (kR k)) h)
      ⊢ iprop(((cred (tallyAt (cell c (kS k)) h NB) ∗ ow c O) -∗ WP c p Q) -∗ WP c (snd c k p) Q) := by
  iintro ⟨#HR, Hs, Hd, HF, HO, Ht1, Hr1, Ht2, Hr2⟩ Hk
  unfold ow owC owns snd
  icases HO with ⟨%W, HO⟩
  icases Hs with ⟨%fs, %hfs, Hs⟩
  icases Hd with ⟨%X, %fd, -, Hd⟩
  have hd0 : ∀ e : Dev nD, false ∈ dut (kS k) e h ∧ false ∈ dut (kR k) e h := fun e => by
    simp only [dut, if_pos hh, Finset.mem_singleton, and_self]
  iapply (Rounds.wp_send_pointsTo_with 𝒱₀ ER (Rd A Pm) (c : Thread nD τ) none (κ₁ := K (c, kS k)) (κ₂ := K (tgt k c, kR k))
      (c' := ((tgt k c : Dev nD) : Thread nD τ)) (src := sM k) (dst := rM k) (sS := .dma (sSem k)) (sem := .dma (rSem k))
      (r₁ := h) (r₂ := h) (d₁ := false) (d₂ := false) (fd := fd) (fs := fs) (q := fullShare)
      (F := iprop(reached ER (cell c (kC k)) h ∗ rows k c h))
      (Eq.mpr (congrArg (false ∈ ·) (Rd_duties A Pm c (kS k) h)) (hd0 c).1)
      (Eq.mpr (congrArg (false ∈ ·) (Rd_duties A Pm (tgt k c) (kR k) h)) (hd0 _).2)
      h h NB (credit_r k) (Rd_amount A Pm c (kS k) h false) (Rd_amount A Pm (tgt k c) (kR k) h false) O (add_comm _ _) (W := W)
      (by
        refine BIBase.Entails.trans ?_ (Entails.of_eq (Rd_payload A Pm c (kS k) h false).symm)
        dsimp only [payl]; unfold owC owns
        iintro H; iexists _; iexists fs; isplitr; · (ipureintro; rfl)
        iexact H)
      (by
        refine BIBase.Entails.trans ?_ (Entails.of_eq (Rd_payload A Pm (tgt k c) (kR k) h false).symm)
        dsimp only [payl]; rw [peer_tgt]; unfold owns
        iintro ⟨H, HF⟩
        isplitl [H]
        · iexists ((rM k).view.write (Elt F) fd ((sM k).view.read (Elt F) fs) Finset.univ); isplitr
          · ipureintro; exact (View.read_write_univ _ _).trans hfs
          iexact H
        iexact HF)) $$ [Hs Hd HF HO Ht1 Hr1 Ht2 Hr2]
  · isplitr; · iapply (inv_at A Pm K c (kS k)); iexact HR
    isplitr; · iapply (inv_at A Pm K (tgt k c) (kR k)); iexact HR
    isplitl [Hs]; · iexact Hs
    isplitl [Hd HF]; · isplitl [Hd] <;> iassumption
    isplitl [HO]; · iexact HO
    isplitl [Ht1]; · iexact Ht1
    isplitl [Hr1]; · iexact Hr1
    isplitl [Ht2]; · iexact Ht2
    iexact Hr2
  iintro ⟨Hc, HO⟩
  iapply Hk
  isplitl [Hc]; · iexact Hc
  iexists _; iexact HO

end

/-! ## Loads and stores of a message buffer -/

theorem hz2 : (![0, 0] : Fin 2 → Nat) = fun _ => 0 := funext fun a => by fin_cases a <;> rfl

section
variable (b : Ref sig .tc)

/-- Through the rectangle at zero offsets of all a buffer's sizes, a load reads the buffer and a store overwrites it. -/
theorem ld_all {off : Fin b.ty.shape.rank → Nat} (h : off = fun _ => 0) (inb : ∀ a, off a + b.ty.shape.size a ≤ b.ty.shape.size a)
    (f : b.ty.Contents (Elt F)) :
    (Memref.whole b : Memref sig .tc _ _ _).view.readAt (Elt F) (Rect.unit off b.ty.shape.size inb).toLoadRect f
      = (Memref.whole b : Memref sig .tc _ _ _).view.read (Elt F) f :=
  (Memref.readAt_unit_zero (Elt F) b h inb f).trans (View.read_whole _ _).symm
theorem st_all {off : Fin b.ty.shape.rank → Nat} (h : off = fun _ => 0) (inb : ∀ a, off a + b.ty.shape.size a ≤ b.ty.shape.size a)
    (f v : b.ty.Contents (Elt F)) :
    (Memref.whole b : Memref sig .tc _ _ _).view.read (Elt F)
      (((Memref.whole b).access (Rect.unit off b.ty.shape.size inb) : View sig .tc _ _ _).write (Elt F) f v Finset.univ) = v :=
  (View.read_whole _ _).trans (Memref.write_access_unit_zero_univ (Elt F) b h inb f v)
end

theorem readAt_s (k : Ch) (c : Dev nD) (f : Buf (Elt F) ((sM k).view.loc (c : Thread nD τ))) :
    (sM k).view.readAt (Elt F) bRect.toLoadRect f = (sM k).view.read (Elt F) f := by
  cases k
  exacts [ld_all cc0_scratch0 hz2 inb_S256x1024_S256x1024_0_0 f,
    ld_all cc0_scratch4 hz2 inb_S256x1024_S256x1024_0_0 f,
    ld_all cc0_scratch1 hz2 inb_S256x1024_S256x1024_0_0 f,
    ld_all cc0_scratch5 hz2 inb_S256x1024_S256x1024_0_0 f,
    ld_all cc0_scratch2 hz2 inb_S256x1024_S256x1024_0_0 f,
    ld_all cc0_scratch6 hz2 inb_S256x1024_S256x1024_0_0 f,
    ld_all cc0_scratch3 hz2 inb_S256x1024_S256x1024_0_0 f,
    ld_all cc0_scratch7 hz2 inb_S256x1024_S256x1024_0_0 f]
theorem readAt_r (k : Ch) (c : Dev nD) (f : Buf (Elt F) ((rM k).view.loc (c : Thread nD τ))) :
    (rM k).view.readAt (Elt F) bRect.toLoadRect f = (rM k).view.read (Elt F) f := by
  cases k
  exacts [ld_all cc0_scratch8 hz2 inb_S256x1024_S256x1024_0_0 f,
    ld_all cc0_scratch12 hz2 inb_S256x1024_S256x1024_0_0 f,
    ld_all cc0_scratch9 hz2 inb_S256x1024_S256x1024_0_0 f,
    ld_all cc0_scratch13 hz2 inb_S256x1024_S256x1024_0_0 f,
    ld_all cc0_scratch10 hz2 inb_S256x1024_S256x1024_0_0 f,
    ld_all cc0_scratch14 hz2 inb_S256x1024_S256x1024_0_0 f,
    ld_all cc0_scratch11 hz2 inb_S256x1024_S256x1024_0_0 f,
    ld_all cc0_scratch15 hz2 inb_S256x1024_S256x1024_0_0 f]
theorem read_st (k : Ch) (c : Dev nD) (f : Buf (Elt F) ((sM k).view.loc (c : Thread nD τ))) (v : FVec F S256x1024 .bf16) :
    (sM k).view.read (Elt F) (((sM k).access bRect : View sig .tc _ _ _).write (Elt F) f v Finset.univ) = v := by
  cases k
  exacts [st_all cc0_scratch0 hz2 inb_S256x1024_S256x1024_0_0 f v,
    st_all cc0_scratch4 hz2 inb_S256x1024_S256x1024_0_0 f v,
    st_all cc0_scratch1 hz2 inb_S256x1024_S256x1024_0_0 f v,
    st_all cc0_scratch5 hz2 inb_S256x1024_S256x1024_0_0 f v,
    st_all cc0_scratch2 hz2 inb_S256x1024_S256x1024_0_0 f v,
    st_all cc0_scratch6 hz2 inb_S256x1024_S256x1024_0_0 f v,
    st_all cc0_scratch3 hz2 inb_S256x1024_S256x1024_0_0 f v,
    st_all cc0_scratch7 hz2 inb_S256x1024_S256x1024_0_0 f v]
theorem set_s (k : Ch) : (sM k).view.set = Finset.univ := by cases k <;> exact View.set_whole _
theorem set_r (k : Ch) : (rM k).view.set = Finset.univ := by cases k <;> exact View.set_whole _

theorem wp_ldR (c : Dev nD) (k : Ch) (X : Vec F S256x1024 .bf16) (hl) {p : Vec F S256x1024 .bf16 → P F} {Q : PUnit → sProp 𝕄} :
    (owns (c : Thread nD τ) (rM k) fullShare X : sProp 𝕄)
      ⊢ iprop((owns (c : Thread nD τ) (rM k) fullShare X -∗ WP c (p X) Q) -∗ WP c (.op (.load (rM k) bRect.toLoadRect hl) p) Q) := by
  iintro H Hk
  unfold owns
  icases H with ⟨%f, %hf, H⟩
  iapply (wp_load 𝒱₀ (c : Thread nD τ) none Set.univ (m := rM k) (by rw [set_r]; exact Finset.subset_univ _)) $$ H
  iintro H
  rw [readAt_r k c f, hf]
  iapply Hk
  iexists f; isplitr; · (ipureintro; exact hf)
  iexact H

/-- The load of a send buffer before it is stored (its value is not used). -/
theorem wp_ldS (c : Dev nD) (k : Ch) (hl) {p : P F} {Q : PUnit → sProp 𝕄} :
    (owC c (sM k) : sProp 𝕄)
      ⊢ iprop((owC c (sM k) -∗ WP c p Q) -∗ WP c (.op (.load (sM k) bRect.toLoadRect hl) fun _ => p) Q) := by
  iintro H Hk
  unfold owC owns
  icases H with ⟨%X, %f, %hf, H⟩
  iapply (wp_load 𝒱₀ (c : Thread nD τ) none Set.univ (m := sM k) (by rw [set_s]; exact Finset.subset_univ _)) $$ H
  iintro H
  iapply Hk
  iexists X; iexists f; isplitr; · (ipureintro; exact hf)
  iexact H

theorem wp_stS (c : Dev nD) (k : Ch) (v : FVec F S256x1024 .bf16) {p : P F} {Q : PUnit → sProp 𝕄} :
    (owC c (sM k) : sProp 𝕄)
      ⊢ iprop((owns (c : Thread nD τ) (sM k) fullShare v -∗ WP c p Q) -∗ WP c (stM k v p) Q) := by
  iintro H Hk
  unfold owC owns stM
  icases H with ⟨%X, %f, %hf, H⟩
  iapply (wp_store 𝒱₀ (c : Thread nD τ) none Set.univ (m := sM k) (r := bRect) (Mk := Finset.univ)
    (by rw [set_s]; exact Finset.subset_univ _)) $$ H
  iintro H
  iapply Hk
  iexists _; isplitr; · (ipureintro; exact read_st k c f v)
  iexact H

end Cert.KernelIdeal.Hand
-- ==== Proof.KernelIdeal.Hop.lean ====
/- One channel's hop: the waits, the loads, the product, the store, the exchange of the free slot, the transfer.

   The messages are defined here: channel `k`'s `h`-th message of device `c` is the block product at that hop added to
   the message that arrived from the peer, rounded. -/
module

public import proofs.«01_k».proof.Proof.KernelIdeal.Steps
public import Idealize.SL.BI.BigOpNat

@[expose] public section

set_option maxRecDepth 4000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- The staging buffers of the two operands and of the result. -/
abbrev xM : Memref sig .tc .vmem S4096x256 .bf16 := Memref.whole cc0_stg0_0
abbrev wM : Memref sig .tc .vmem S256x8192 .bf16 := Memref.whole cc0_stg1_0
abbrev oM : Memref sig .tc .vmem S256x8192 .f32 := Memref.whole cc0_stg2_0

/-- What a staging buffer holds on each device. -/
abbrev XS (F : FTy → Type) [FloatOps F] : Type := Dev nD → (cc0_stg0_0 : Ref sig .tc).ty.Contents (Elt F)
abbrev WS (F : FTy → Type) [FloatOps F] : Type := Dev nD → (cc0_stg1_0 : Ref sig .tc).ty.Contents (Elt F)

section Values

variable (xs : XS F) (ws : WS F)

/-- The rows of the left operand at a hop and at the end, the columns of the right one. -/
def xv (k : Ch) (c : Dev nD) (r : Fin 15) : Vec F S256x256 .bf16 := xM.view.readAt (Elt F) (xRect k c r).toLoadRect (xs c)
def xf (c : Dev nD) : Vec F S256x256 .bf16 := xM.view.readAt (Elt F) (xFin c).toLoadRect (xs c)
def wv (k : Ch) (c : Dev nD) : Vec F S256x1024 .bf16 := wM.view.readAt (Elt F) (wRect k).toLoadRect (ws c)

/-- The messages. -/
def A (k : Ch) : ℕ → Dev nD → Vec F S256x1024 .bf16
  | 0, c => msg0 (xv xs k c 0) (wv ws k c)
  | h + 1, c => msgS (xv xs k c (Fin.ofNat 15 (h + 1))) (wv ws k c) (A k h (peer k c))

/-- A device's block of the result before quantisation, and its running maximum. -/
def yb (k : Ch) (c : Dev nD) : Vec F S256x1024 .f32 := yOf (xf xs c) (wv ws k c) (A xs ws k 14 (peer k c))
def pm (c : Dev nD) : ℕ → F .f32
  | 0 => mx0
  | i + 1 => mx (pm c i) (xf xs c) (wv ws (Ch.at' i) c) (A xs ws (Ch.at' i) 14 (peer (Ch.at' i) c))
def Pm (c : Dev nD) : F .f32 := pm xs ws c 8

/-- The operands' staging buffers, held. -/
def xP (c : Dev nD) : sProp 𝕄 := iprop(((c : Thread nD τ).loc cc0_stg0_0) ↦{fullShare} xs c)
def wP (c : Dev nD) : sProp 𝕄 := iprop(((c : Thread nD τ).loc cc0_stg1_0) ↦{fullShare} ws c)

theorem wp_ldX (c : Dev nD) (r : Rect S4096x256) (hl) {p : (r.shape.Idx → Elt F .bf16) → P F} {Q : PUnit → sProp 𝕄} :
    xP xs c ⊢ iprop((xP xs c -∗ WP c (p (xM.view.readAt (Elt F) r.toLoadRect (xs c))) Q)
      -∗ WP c (.op (.load xM r.toLoadRect hl) p) Q) := by
  unfold xP
  exact wp_load 𝒱₀ (c : Thread nD τ) none Set.univ (m := xM) (Finset.subset_univ _)

theorem wp_ldW (c : Dev nD) (r : Rect S256x8192) (hl) {p : (r.shape.Idx → Elt F .bf16) → P F} {Q : PUnit → sProp 𝕄} :
    wP ws c ⊢ iprop((wP ws c -∗ WP c (p (wM.view.readAt (Elt F) r.toLoadRect (ws c))) Q)
      -∗ WP c (.op (.load wM r.toLoadRect hl) p) Q) := by
  unfold wP
  exact wp_load 𝒱₀ (c : Thread nD τ) none Set.univ (m := wM) (Finset.subset_univ _)

end Values

/-! ## The rows that travel with the first right-going channel -/

/-- The rows of its own table a device has not yet sent away. -/
def own (k : Ch) (c : Dev nD) (h : ℕ) : sProp 𝕄 :=
  if k = .r0 then bigSep (Finset.Ico h 15) fun i => rowE (F := F) c (bk c (i + 1)) else iprop(emp)

theorem range_succ_sep (n : ℕ) (Φ : ℕ → sProp 𝕄) :
    bigSep (Finset.range (n + 1)) Φ = iprop(Φ n ∗ bigSep (Finset.range n) Φ) := by
  rw [Finset.range_add_one, bigSep_insert Finset.notMem_range_self]; rfl

theorem rows_zero (k : Ch) (c : Dev nD) : own (F := F) k c 0 ⊢ iprop(rows k c 0 ∗ own k c 1) := by
  unfold own rows
  split
  · rw [bigSep_Ico_succ_bot (by decide)]
    rw [show Finset.range (0 + 1) = {0} from rfl, bigSep_singleton, Nat.zero_sub, bk_zero]
  · iintro H; isplitl [] <;> iempintro

theorem rows_succ (k : Ch) (c : Dev nD) (h : ℕ) (hh : h + 1 < 15) :
    iprop(rows (F := F) k (peer k c) h ∗ own k c (h + 1)) ⊢ iprop(rows k c (h + 1) ∗ own k c (h + 2)) := by
  unfold own rows
  split
  · next hk =>
    subst hk
    rw [bigSep_Ico_succ_bot hh, show peer .r0 c = leftOf c from rfl, leftOf_eq, range_succ_sep (h + 1), Nat.sub_self, bk_zero]
    iintro ⟨H, H1, H2⟩
    isplitr [H2]
    · isplitl [H1]; · iexact H1
      iapply (Entails.of_eq (bigSep_congr fun j hj => ?_)) $$ H
      have hj' : j < h + 1 := Finset.mem_range.mp hj
      rw [bk_bk, bk_bk, show 1 + (h - j) = h + 1 - j by omega, show 1 + (h + 1) = h + 1 + 1 by omega]
    · iexact H2
  · iintro H; isplitl [] <;> iempintro

/-- The rows the last message brings: this device's row of every other table. -/
def rowsIn (k : Ch) (c : Dev nD) : sProp 𝕄 :=
  if k = .r0 then bigSep (Finset.range 15) fun j => rowE (F := F) (fw c (j + 1)) c else iprop(emp)

theorem rows_last (k : Ch) (c : Dev nD) : rows (F := F) k (peer k c) 14 ⊢ rowsIn k c := by
  unfold rows rowsIn
  split
  · next hk =>
    subst hk
    rw [show peer .r0 c = leftOf c from rfl, leftOf_eq]
    refine Entails.of_eq (bigSep_congr fun j hj => ?_)
    have hj' : j < 15 := Finset.mem_range.mp hj
    rw [bk_bk, bk_bk, show 1 + (14 + 1) = 16 from rfl, bk_16, show 1 + (14 - j) = 16 - (j + 1) by omega,
      fw_of_bk c (j + 1) (by omega)]
  · exact .rfl

/-! ## A channel between hops -/

section Chan

variable (xs : XS F) (ws : WS F) (K : Dev nD × CK → ℕ)

/-- Channel `k` of device `c` after `h` hops. -/
def st (c : Dev nD) (k : Ch) : ℕ → sProp 𝕄
  | 0 => iprop(atPos ER (cell c (kS k)) 0 ∅ 0 ∗ atPos ER (cell c (kR k)) 0 ∅ 0 ∗ atPos ER (cell c (kC k)) 0 ∅ 0
      ∗ owC c (sM k) ∗ owC (tgt k c) (rM k) ∗ own k c 0)
  | h + 1 => iprop(atPos ER (cell c (kS k)) h ∅ 0 ∗ atPos ER (cell c (kR k)) h ∅ 0 ∗ atPos ER (cell c (kC k)) h ∅ 0
      ∗ cred (tallyAt (cell c (kS k)) h NB) ∗ own k c (h + 1))

/-- The same after its last step. -/
def dn (c : Dev nD) (k : Ch) : sProp 𝕄 :=
  iprop(atPos ER (cell c (kS k)) 15 ∅ 0 ∗ atPos ER (cell c (kR k)) 15 ∅ 0 ∗ atPos ER (cell c (kC k)) 14 ∅ 0
    ∗ owC c (sM k) ∗ owC c (rM k) ∗ rowsIn k c)

/-- What hop `h` of channel `k` takes: the payments it waits for and the rights to the payments it makes. -/
def it (c : Dev nD) (k : Ch) : ℕ → sProp 𝕄
  | 0 => iprop(dutyTok ER (cell c (kS k)) 0 false ∗ dutyTok ER (cell (tgt k c) (kR k)) 0 false)
  | h + 1 => iprop(cred (tallyAt (cell c (kR k)) h NB) ∗ cred (tallyAt (cell c (kC k)) h 1)
      ∗ dutyTok ER (cell c (kS k)) (h + 1) false ∗ dutyTok ER (cell (tgt k c) (kR k)) (h + 1) false
      ∗ dutyTok ER (cell (peer k c) (kC k)) h false)

/-- What hop `h` of channel `k` owes, before `T`. -/
def od (c : Dev nD) (k : Ch) (T : CellTallies nD τ sig ℕ) : ℕ → CellTallies nD τ sig ℕ
  | 0 => tallyAt (cell (tgt k c) (kR k)) 0 NB + T
  | h + 1 => tallyAt (cell (peer k c) (kC k)) h 1 + (tallyAt (cell (tgt k c) (kR k)) (h + 1) NB + T)

theorem above_od (c : Dev nD) (k : Ch) (h n : ℕ) (hh : h < 15) (hn : n ≤ 2 * (8 * h + k.ix) + 1) {T : CellTallies nD τ sig ℕ}
    (hT : Above n T) : Above n (od c k T h) := by
  cases h with
  | zero => exact (Above.tally _ _ _ _ _ (by omega) (by dsimp only [lvl]; omega)).add hT
  | succ h =>
    exact (Above.tally _ _ _ _ _ (by omega) (by dsimp only [lvl]; omega)).add
      ((Above.tally _ _ _ _ _ (by omega) (by dsimp only [lvl]; omega)).add hT)

theorem dut_s (k : Ch) (c : Dev nD) (r : ℕ) (h : r < 15) : dut (kS k) c r = {false} := if_pos h
theorem dut_r (k : Ch) (c : Dev nD) (r : ℕ) (h : r < 15) : dut (kR k) c r = {false} := if_pos h
theorem dut_c (k : Ch) (c : Dev nD) (r : ℕ) (h : r < 14) : dut (kC k) c r = {false} := if_pos h

/-- The first hop. -/
theorem hop0_spec (c : Dev nD) (k : Ch) (T : CellTallies nD τ sig ℕ) {p : P F} {Q : PUnit → sProp 𝕄} :
    iprop(recs (A xs ws) (Pm xs ws) K ∗ xP xs c ∗ wP ws c ∗ st c k 0 ∗ it c k 0 ∗ ow c (od c k T 0))
      ⊢ iprop(((xP xs c ∗ wP ws c ∗ st c k 1 ∗ ow c T) -∗ WP c p Q) -∗ WP c (hop0 xM wM c k p) Q) := by
  iintro ⟨#HR, Hx, Hw, Hst, Hit, HO⟩ Hk
  unfold hop0
  dsimp only [st, it, od]
  icases Hst with ⟨Ha, Hb, Hc, Hs, Hd, Hown⟩
  icases Hit with ⟨Ht1, Ht2⟩
  iapply (wp_ldX xs c _ _) $$ Hx; iintro Hx
  iapply (wp_ldW ws c _ _) $$ Hw; iintro Hw
  iapply (wp_ldS c k _) $$ Hs; iintro Hs
  iapply (wp_stS c k _) $$ Hs; iintro Hs
  ihave Hrows := (rows_zero k c) $$ Hown
  icases Hrows with ⟨Hrows, Hown⟩
  iapply (wp_msg (A xs ws) (Pm xs ws) K c k 0 (by decide) T) $$ [Hs Hd Hrows HO Ht1 Ht2]
  · isplitr; · iexact HR
    isplitl [Hs]; · iexact Hs
    isplitl [Hd]; · iexact Hd
    isplitl [Hrows]
    · isplitr; · iapply (reached_at (A xs ws) (Pm xs ws) K c (kC k)); iexact HR
      iexact Hrows
    isplitl [HO]; · iexact HO
    isplitl [Ht1]; · iexact Ht1
    isplitr; · iapply (reached_at (A xs ws) (Pm xs ws) K c (kS k)); iexact HR
    isplitl [Ht2]; · iexact Ht2
    iapply (reached_at (A xs ws) (Pm xs ws) K (tgt k c) (kR k)); iexact HR
  iintro ⟨Hcr, HO⟩
  iapply Hk
  isplitl [Hx]; · iexact Hx
  isplitl [Hw]; · iexact Hw
  isplitr [HO]
  · isplitl [Ha]; · iexact Ha
    isplitl [Hb]; · iexact Hb
    isplitl [Hc]; · iexact Hc
    isplitl [Hcr]; · iexact Hcr
    iexact Hown
  iexact HO

/-- The two waits at the head of a later step. -/
theorem wts_spec (c : Dev nD) (k : Ch) (h : ℕ) (hh : h < 15) {O : CellTallies nD τ sig ℕ}
    (hO : Above (2 * (8 * h + k.ix) + 3) O) {p : P F} {Q : PUnit → sProp 𝕄} :
    iprop(recs (A xs ws) (Pm xs ws) K ∗ atPos ER (cell c (kS k)) h ∅ 0 ∗ atPos ER (cell c (kR k)) h ∅ 0
        ∗ cred (tallyAt (cell c (kS k)) h NB) ∗ cred (tallyAt (cell c (kR k)) h NB) ∗ ow c O)
      ⊢ iprop(((atPos ER (cell c (kS k)) (h + 1) ∅ 0 ∗ atPos ER (cell c (kR k)) (h + 1) ∅ 0
            ∗ reached ER (cell c (kS k)) (h + 1) ∗ reached ER (cell c (kR k)) (h + 1) ∗ owC c (sM k)
            ∗ owns (c : Thread nD τ) (rM k) fullShare (A xs ws k h (peer k c)) ∗ reached ER (cell (peer k c) (kC k)) h
            ∗ rows k (peer k c) h ∗ ow c O) -∗ WP c p Q) -∗ WP c (wts k p) Q) := by
  iintro ⟨#HR, Ha, Hb, Hcs, Hcr, HO⟩ Hk
  unfold wts
  iapply (wp_wait1 (A xs ws) (Pm xs ws) K c (kS k) h NB
      (fun Q => (wpE_waitDma2_eq 𝒱₀ (c : Thread nD τ) none Set.univ Q).trans (by rw [credit_s]; rfl))
      (dut_s k c h hh) rfl (by omega) 0 (Nat.le_refl 0) (hO.mono (Nat.zero_le _))) $$ [Ha Hcs HO]
  · isplitr; · iexact HR
    isplitl [Hcs]; · iexact Hcs
    isplitl [HO]; · iexact HO
    iexact Ha
  iintro ⟨HO, Ha, Hra, Hs⟩
  iapply (wp_wait1 (A xs ws) (Pm xs ws) K c (kR k) h NB
      (fun Q => (wpE_waitDma2_eq 𝒱₀ (c : Thread nD τ) none Set.univ Q).trans (by rw [credit_r]; rfl))
      (dut_r k c h hh) rfl (by omega) _ (Nat.le_refl _) hO) $$ [Hb Hcr HO]
  · isplitr; · iexact HR
    isplitl [Hcr]; · iexact Hcr
    isplitl [HO]; · iexact HO
    iexact Hb
  iintro ⟨HO, Hb, Hrb, Hp⟩
  dsimp only [payl]
  icases Hp with ⟨Hr, Hrc, Hrows⟩
  iapply Hk
  isplitl [Ha]; · iexact Ha
  isplitl [Hb]; · iexact Hb
  isplitl [Hra]; · iexact Hra
  isplitl [Hrb]; · iexact Hrb
  isplitl [Hs]; · iexact Hs
  isplitl [Hr]; · iexact Hr
  isplitl [Hrc]; · iexact Hrc
  isplitl [Hrows]; · iexact Hrows
  iexact HO

/-- A message buffer held with its contents is a message buffer held. -/
theorem owC_of (c : Dev nD) (M : Memref sig .tc .vmem S256x1024 .bf16) (X : Vec F S256x1024 .bf16) :
    (owns (c : Thread nD τ) M fullShare X : sProp 𝕄) ⊢ owC c M := by
  unfold owC; iintro H; iexists X; iexact H

set_option maxHeartbeats 1000000 in
/-- A later hop. -/
theorem hop_spec (c : Dev nD) (k : Ch) (h : ℕ) (hh : h + 1 < 15) (r : Fin 15) (hr : r = Fin.ofNat 15 (h + 1))
    (T : CellTallies nD τ sig ℕ) (hT : Above (2 * (8 * (h + 1) + k.ix) + 2) T) {p : P F} {Q : PUnit → sProp 𝕄} :
    iprop(recs (A xs ws) (Pm xs ws) K ∗ xP xs c ∗ wP ws c ∗ st c k (h + 1) ∗ it c k (h + 1) ∗ ow c (od c k T (h + 1)))
      ⊢ iprop(((xP xs c ∗ wP ws c ∗ st c k (h + 2) ∗ ow c T) -∗ WP c p Q) -∗ WP c (hop xM wM c r k p) Q) := by
  have hw1 : Above (2 * (8 * (h + 1) + k.ix) + 2) (tallyAt (cell (tgt k c) (kR k)) (h + 1) NB + T) :=
    (Above.tally _ _ _ _ _ (by omega) (by dsimp only [lvl]; omega)).add hT
  iintro ⟨#HR, Hx, Hw, Hst, Hit, HO⟩ Hk
  unfold hop
  dsimp only [st, it]
  icases Hst with ⟨Ha, Hb, Hc, Hcs, Hown⟩
  icases Hit with ⟨Hcr, Hcc, Ht1, Ht2, Ht3⟩
  iapply (wts_spec xs ws K c k h (by omega) (O := od c k T (h + 1))
      (above_od c k (h + 1) _ hh (by omega) (hT.mono (by omega)))) $$ [Ha Hb Hcs Hcr HO]
  · isplitr; · iexact HR
    isplitl [Ha]; · iexact Ha
    isplitl [Hb]; · iexact Hb
    isplitl [Hcs]; · iexact Hcs
    isplitl [Hcr]; · iexact Hcr
    iexact HO
  iintro ⟨Ha, Hb, Hra, Hrb, Hs, Hr, Hrc, Hrows, HO⟩
  iapply (wp_ldX xs c _ _) $$ Hx; iintro Hx
  iapply (wp_ldW ws c _ _) $$ Hw; iintro Hw
  iapply (wp_ldR c k _ _) $$ Hr; iintro Hr
  iapply (wp_ldS c k _) $$ Hs; iintro Hs
  iapply (wp_stS c k _) $$ Hs; iintro Hs
  dsimp only [od]
  iapply (wp_sig (A xs ws) (Pm xs ws) K c (peer k c) (kC k) (cSem k) rfl h false
      (by rw [dut_c k _ h (by omega)]; exact Finset.mem_singleton_self _) rfl
      (tallyAt (cell (tgt k c) (kR k)) (h + 1) NB + T)) $$ [HO Ht3 Hr Hrb Hrc]
  · isplitr; · iexact HR
    isplitl [HO]; · iexact HO
    isplitl [Ht3]; · iexact Ht3
    isplitr [Hrc]
    · dsimp only [payl]; rw [tgt_peer]
      isplitl [Hr]; · iapply (owC_of c (rM k) _); iexact Hr
      iexact Hrb
    iexact Hrc
  iintro HO
  iapply (wp_wait1 (A xs ws) (Pm xs ws) K c (kC k) h 1
      (fun Q => wpE_semWait_eq 𝒱₀ (c : Thread nD τ) none Set.univ Q)
      (dut_c k c h (by omega)) rfl (by omega) (2 * (8 * (h + 1) + k.ix) + 2) (Nat.le_refl _) hw1) $$ [Hc Hcc HO]
  · isplitr; · iexact HR
    isplitl [Hcc]; · iexact Hcc
    isplitl [HO]; · iexact HO
    iexact Hc
  iintro ⟨HO, Hc, Hrc, Hp⟩
  dsimp only [payl]
  icases Hp with ⟨Hd, Hrt⟩
  ihave Hrows := (rows_succ k c h hh) $$ [Hrows Hown]
  · isplitl [Hrows] <;> iassumption
  icases Hrows with ⟨Hrows, Hown⟩
  iapply (wp_msg (A xs ws) (Pm xs ws) K c k (h + 1) (by omega) T) $$ [Hs Hd Hrows HO Ht1 Ht2 Hrc Hra Hrt]
  · isplitr; · iexact HR
    isplitl [Hs]; · subst hr; iexact Hs
    isplitl [Hd]; · iexact Hd
    isplitl [Hrows Hrc]
    · isplitl [Hrc]; · iexact Hrc
      iexact Hrows
    isplitl [HO]; · iexact HO
    isplitl [Ht1]; · iexact Ht1
    isplitl [Hra]; · iexact Hra
    isplitl [Ht2]; · iexact Ht2
    iexact Hrt
  iintro ⟨Hcr, HO⟩
  iapply Hk
  isplitl [Hx]; · iexact Hx
  isplitl [Hw]; · iexact Hw
  isplitr [HO]
  · isplitl [Ha]; · iexact Ha
    isplitl [Hb]; · iexact Hb
    isplitl [Hc]; · iexact Hc
    isplitl [Hcr]; · iexact Hcr
    iexact Hown
  iexact HO

end Chan

end Cert.KernelIdeal.Hand
-- ==== Proof.KernelIdeal.Loops.lean ====
/- The channels' iterations: eight first hops, a hundred and twelve later ones, eight last steps with the result's
   blocks stored one by one. -/
module

public import proofs.«01_k».proof.Proof.KernelIdeal.Hop

@[expose] public section

set_option maxRecDepth 4000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Channels by place -/

theorem ix_at (n : ℕ) (h : n < 8) : (Ch.at' n).ix = n := by
  have h' : ∀ m : Fin 8, (Ch.at' m.val).ix = m.val := by decide
  exact h' ⟨n, h⟩
theorem at_ix (k : Ch) : Ch.at' k.ix = k := by cases k <;> rfl
theorem ix_lt (k : Ch) : k.ix < 8 := by cases k <;> decide
theorem ne_ix {k : Ch} {n : ℕ} (h : k ≠ Ch.at' n) : k.ix ≠ n := fun e => h (by rw [← e, at_ix])

theorem univ_split (Φ : Ch → sProp 𝕄) (k : Ch) :
    bigSep Finset.univ Φ = iprop(Φ k ∗ bigSep (Finset.univ.erase k) Φ) := bigSep_univ_split k

/-- All channels at position `q`: those before it in the order are a hop ahead. -/
def sts (c : Dev nD) (q : ℕ) : sProp 𝕄 := bigSep Finset.univ fun k => st c k ((q + 7 - k.ix) / 8)
/-- All but the one whose turn it is. -/
def others (c : Dev nD) (q : ℕ) : sProp 𝕄 :=
  bigSep (Finset.univ.erase (Ch.at' (q % 8))) fun k => st c k ((q + 7 - k.ix) / 8)

theorem sts_open (c : Dev nD) (q : ℕ) : sts (F := F) c q = iprop(st c (Ch.at' (q % 8)) (q / 8) ∗ others c q) := by
  have h8 := Nat.mod_lt q (show 0 < 8 by decide)
  unfold sts others
  rw [univ_split _ (Ch.at' (q % 8)), ix_at _ h8, show (q + 7 - q % 8) / 8 = q / 8 by omega]

theorem sts_close (c : Dev nD) (q : ℕ) : sts (F := F) c (q + 1) = iprop(st c (Ch.at' (q % 8)) (q / 8 + 1) ∗ others c q) := by
  have h8 := Nat.mod_lt q (show 0 < 8 by decide)
  unfold sts others
  rw [univ_split _ (Ch.at' (q % 8)), ix_at _ h8, show (q + 1 + 7 - q % 8) / 8 = q / 8 + 1 by omega]
  congr 1
  refine bigSep_congr fun k hk => ?_
  have h1 := ne_ix (Finset.ne_of_mem_erase hk)
  have h2 := ix_lt k
  rw [show (q + 1 + 7 - k.ix) / 8 = (q + 7 - k.ix) / 8 by omega]

/-- What `n` hops from position `q` on take, before `R`. -/
def stock (c : Dev nD) (R : sProp 𝕄) : ℕ → ℕ → sProp 𝕄
  | 0, _ => R
  | n + 1, q => iprop(it c (Ch.at' (q % 8)) (q / 8) ∗ stock c R n (q + 1))
/-- What `n` hops from position `q` on owe, before `T`. -/
def owed (c : Dev nD) (T : CellTallies nD τ sig ℕ) : ℕ → ℕ → CellTallies nD τ sig ℕ
  | 0, _ => T
  | n + 1, q => od c (Ch.at' (q % 8)) (owed c T n (q + 1)) (q / 8)

theorem above_owed (c : Dev nD) {T : CellTallies nD τ sig ℕ} (hT : Above 250 T) :
    ∀ n q, q + n ≤ 120 → Above (2 * q + 1) (owed c T n q)
  | 0, q, h => hT.mono (by omega)
  | n + 1, q, h => by
    have h8 := Nat.mod_lt q (show 0 < 8 by decide)
    exact above_od c _ _ _ (by omega) (by rw [ix_at _ h8]; omega) ((above_owed c hT n (q + 1) (by omega)).mono (by omega))

section Run

variable (xs : XS F) (ws : WS F) (K : Dev nD × CK → ℕ)

/-- The first hops. -/
theorem hops0_spec (c : Dev nD) (R : sProp 𝕄) (T : CellTallies nD τ sig ℕ) {p : P F} {Q : PUnit → sProp 𝕄} :
    ∀ n i, i + n ≤ 8 →
    iprop(recs (A xs ws) (Pm xs ws) K ∗ xP xs c ∗ wP ws c ∗ sts c i ∗ stock c R n i ∗ ow c (owed c T n i))
      ⊢ iprop(((xP xs c ∗ wP ws c ∗ sts c (i + n) ∗ R ∗ ow c T) -∗ WP c p Q) -∗ WP c (hops0 xM wM c n i p) Q)
  | 0, i, _ => by
    iintro ⟨#HR, Hx, Hw, Hs, Hr, HO⟩ Hk
    dsimp only [stock, owed, hops0]
    iapply Hk
    isplitl [Hx]; · iexact Hx
    isplitl [Hw]; · iexact Hw
    isplitl [Hs]; · iexact Hs
    isplitl [Hr]; · iexact Hr
    iexact HO
  | n + 1, i, h => by
    have hi : i % 8 = i := Nat.mod_eq_of_lt (by omega)
    have h0 : i / 8 = 0 := Nat.div_eq_of_lt (by omega)
    dsimp only [stock, owed, hops0]
    rw [sts_open, hi, h0]
    iintro ⟨#HR, Hx, Hw, Hs, Hr, HO⟩ Hk
    icases Hs with ⟨Hst, Hs⟩
    icases Hr with ⟨Hit, Hr⟩
    iapply (hop0_spec xs ws K c (Ch.at' i) (owed c T n (i + 1))) $$ [Hx Hw Hst Hit HO]
    · isplitr; · iexact HR
      isplitl [Hx]; · iexact Hx
      isplitl [Hw]; · iexact Hw
      isplitl [Hst]; · iexact Hst
      isplitl [Hit]; · iexact Hit
      iexact HO
    iintro ⟨Hx, Hw, Hst, HO⟩
    iapply (hops0_spec c R T n (i + 1) (by omega)) $$ [Hx Hw Hst Hs Hr HO]
    · isplitr; · iexact HR
      isplitl [Hx]; · iexact Hx
      isplitl [Hw]; · iexact Hw
      isplitl [Hst Hs]
      · rw [sts_close, hi, h0]; isplitl [Hst]; · iexact Hst
        iexact Hs
      isplitl [Hr]; · iexact Hr
      iexact HO
    rw [show i + 1 + n = i + (n + 1) by omega]
    iexact Hk

/-- The later hops. -/
theorem hops_spec (c : Dev nD) (R : sProp 𝕄) (T : CellTallies nD τ sig ℕ) (hT : Above 250 T) {p : P F} {Q : PUnit → sProp 𝕄} :
    ∀ n q, 8 ≤ q → q + n ≤ 120 →
    iprop(recs (A xs ws) (Pm xs ws) K ∗ xP xs c ∗ wP ws c ∗ sts c q ∗ stock c R n q ∗ ow c (owed c T n q))
      ⊢ iprop(((xP xs c ∗ wP ws c ∗ sts c (q + n) ∗ R ∗ ow c T) -∗ WP c p Q) -∗ WP c (hops xM wM c n q p) Q)
  | 0, q, _, _ => by
    iintro ⟨#HR, Hx, Hw, Hs, Hr, HO⟩ Hk
    dsimp only [stock, owed, hops]
    iapply Hk
    isplitl [Hx]; · iexact Hx
    isplitl [Hw]; · iexact Hw
    isplitl [Hs]; · iexact Hs
    isplitl [Hr]; · iexact Hr
    iexact HO
  | n + 1, q, h8, h => by
    have hm := Nat.mod_lt q (show 0 < 8 by decide)
    obtain ⟨h', hh'⟩ : ∃ h', q / 8 = h' + 1 := ⟨q / 8 - 1, by omega⟩
    have hab := above_owed c hT n (q + 1) (by omega)
    dsimp only [stock, owed, hops]
    rw [sts_open]
    iintro ⟨#HR, Hx, Hw, Hs, Hr, HO⟩ Hk
    icases Hs with ⟨Hst, Hs⟩
    icases Hr with ⟨Hit, Hr⟩
    iapply (hop_spec xs ws K c (Ch.at' (q % 8)) h' (by omega) ⟨q / 8 % 15, Nat.mod_lt _ (by decide)⟩
      (Fin.ext (by rw [hh']; rfl)) (owed c T n (q + 1)) (hab.mono (by rw [ix_at _ hm]; omega))) $$ [Hx Hw Hst Hit HO]
    · isplitr; · iexact HR
      isplitl [Hx]; · iexact Hx
      isplitl [Hw]; · iexact Hw
      isplitl [Hst]; · rw [← hh']; iexact Hst
      isplitl [Hit]; · rw [← hh']; iexact Hit
      rw [← hh']; iexact HO
    iintro ⟨Hx, Hw, Hst, HO⟩
    iapply (hops_spec c R T hT n (q + 1) (by omega) (by omega)) $$ [Hx Hw Hst Hs Hr HO]
    · isplitr; · iexact HR
      isplitl [Hx]; · iexact Hx
      isplitl [Hw]; · iexact Hw
      isplitl [Hst Hs]
      · rw [sts_close, hh']; isplitl [Hst]; · iexact Hst
        iexact Hs
      isplitl [Hr]; · iexact Hr
      iexact HO
    rw [show q + 1 + n = q + (n + 1) by omega]
    iexact Hk

/-! ## The result's blocks -/

/-- A place of the result within its channel's block. -/
def loc (i : S256x8192.Idx) : S256x1024.Idx :=
  Fin.cons (⟨(i 0).val, (i 0).isLt⟩ : Fin 256) (Fin.cons (⟨(i 1).val % 1024, Nat.mod_lt _ (by decide)⟩ : Fin 1024) finZeroElim)

/-- A device's result before quantisation. -/
def Y (c : Dev nD) : (cc0_stg2_0 : Ref sig .tc).ty.Contents (Elt F) := fun i : S256x8192.Idx =>
  yb xs ws (match (i 1).val / 1024 with | 0 => .r0 | 1 => .r1 | 2 => .r2 | 3 => .r3 | 4 => .l0 | 5 => .l1 | 6 => .l2 | _ => .l3) c (loc i)

/-- The first `i` channels' blocks of a buffer are the result's. -/
def Good (c : Dev nD) (i : ℕ) (f : (cc0_stg2_0 : Ref sig .tc).ty.Contents (Elt F)) : Prop :=
  ∀ j < i, oM.view.readAt (Elt F) (wRect (Ch.at' j)).toLoadRect f = yb xs ws (Ch.at' j) c

theorem mem_cols (k : Ch) (i : S256x8192.Idx) (h : i ∈ (oM.access (wRect k)).setOn Finset.univ) :
    k.lo ≤ (i 1).val ∧ (i 1).val < k.lo + 1024 := by
  obtain ⟨y, -, rfl⟩ := Finset.mem_map.mp h
  have h1 : (y 1).val < 1024 := (y 1).isLt
  have h2 : (((oM.access (wRect k)).emb y : S256x8192.Idx) 1).val = k.lo + 1 * (y 1).val := rfl
  omega

theorem idx_cols (k : Ch) (y : S256x1024.Idx) :
    ((((wRect k).toLoadRect.idx y : S256x8192.Idx) 0).val = (y 0).val)
      ∧ ((((wRect k).toLoadRect.idx y : S256x8192.Idx) 1).val = k.lo + (y 1).val) := by
  have h0 : (((wRect k).toLoadRect.idx y : S256x8192.Idx) 0).val = 0 + 1 * (y 0).val := rfl
  have h1 : (((wRect k).toLoadRect.idx y : S256x8192.Idx) 1).val = k.lo + 1 * (y 1).val := rfl
  omega

theorem lo_apart {k k' : Ch} (h : k ≠ k') : k.lo + 1024 ≤ k'.lo ∨ k'.lo + 1024 ≤ k.lo := by
  revert k k'; decide

theorem ld_other {k k' : Ch} (h : k ≠ k') (f : (cc0_stg2_0 : Ref sig .tc).ty.Contents (Elt F)) (v : FVec F S256x1024 .f32) :
    oM.view.readAt (Elt F) (wRect k').toLoadRect ((oM.access (wRect k)).write (Elt F) f v Finset.univ)
      = oM.view.readAt (Elt F) (wRect k').toLoadRect f := by
  funext y
  rw [View.readAt_apply, View.readAt_apply, View.read_apply, View.read_apply]
  refine congrArg _ (View.write_of_not_mem _ _ _ fun hm => ?_)
  have h1 := mem_cols k _ hm
  have h2 := (idx_cols k' y).2
  have h3 := lo_apart h
  have h4 : (y 1).val < 1024 := (y 1).isLt
  have h5 : (((oM.view.emb ((wRect k').toLoadRect.idx y)) : S256x8192.Idx) 1).val = k'.lo + (y 1).val := h2
  omega

theorem good_succ (c : Dev nD) (i : ℕ) (hi : i < 8) (f : (cc0_stg2_0 : Ref sig .tc).ty.Contents (Elt F)) (h : Good xs ws c i f) :
    Good xs ws c (i + 1) ((oM.access (wRect (Ch.at' i))).write (Elt F) f (yb xs ws (Ch.at' i) c) Finset.univ) := fun j hj => by
  by_cases e : j = i
  · subst e
    exact View.read_write_univ (v := oM.access (wRect (Ch.at' j))) (Val := Elt F) f _
  · rw [ld_other (fun e' => e (by
      have := congrArg Ch.ix e'; rw [ix_at _ hi, ix_at _ (by omega)] at this; exact this.symm))]
    exact h j (by omega)

theorem good_all (c : Dev nD) (f : (cc0_stg2_0 : Ref sig .tc).ty.Contents (Elt F)) (h : Good xs ws c 8 f) : f = Y xs ws c := by
  have key : ∀ k : Ch, ∀ i : S256x8192.Idx, (i 1).val / 1024 = k.lo / 1024 →
      f i = yb xs ws k c (loc i) := fun k i hk => by
    have hh := h k.ix (ix_lt k)
    rw [at_ix] at hh
    have hlo : 1024 * (k.lo / 1024) = k.lo := by cases k <;> rfl
    rw [← hh]
    have hc := idx_cols k (loc i)
    have hm := Nat.div_add_mod (i 1).val 1024
    refine congrArg f (show i = ((wRect k).toLoadRect.idx (loc i) : S256x8192.Idx) from funext fun a => Fin.ext ?_)
    fin_cases a
    · exact hc.1.symm
    · refine Eq.trans ?_ hc.2.symm
      show (i 1).val = k.lo + (i 1).val % 1024
      omega
  funext i
  have hi : ((i : S256x8192.Idx) 1).val < 8192 := ((i : S256x8192.Idx) 1).isLt
  have hq : ((i : S256x8192.Idx) 1).val / 1024 < 8 := by omega
  unfold Y
  generalize hv : ((i : S256x8192.Idx) 1).val / 1024 = v at hq
  rcases (show v = 0 ∨ v = 1 ∨ v = 2 ∨ v = 3 ∨ v = 4 ∨ v = 5 ∨ v = 6 ∨ v = 7 by omega) with
    rfl | rfl | rfl | rfl | rfl | rfl | rfl | rfl
  exacts [key .r0 i hv, key .r1 i hv, key .r2 i hv, key .r3 i hv, key .l0 i hv, key .l1 i hv, key .l2 i hv, key .l3 i hv]

/-- The result's staging buffer with the first `i` blocks done. -/
def oI (c : Dev nD) (i : ℕ) : sProp 𝕄 :=
  iprop(∃ f, ⌜Good xs ws c i f⌝ ∗ (((c : Thread nD τ).loc cc0_stg2_0) ↦{fullShare} f))

/-- A channel's last step. -/
theorem fin_spec (c : Dev nD) (i : ℕ) (hi : i < 8) {O : CellTallies nD τ sig ℕ} (hO : Above 250 O)
    {p : F .f32 → P F} {Q : PUnit → sProp 𝕄} :
    iprop(recs (A xs ws) (Pm xs ws) K ∗ xP xs c ∗ wP ws c ∗ oI xs ws c i ∗ st c (Ch.at' i) 15
        ∗ cred (tallyAt (cell c (kR (Ch.at' i))) 14 NB) ∗ ow c O)
      ⊢ iprop(((xP xs c ∗ wP ws c ∗ oI xs ws c (i + 1) ∗ dn c (Ch.at' i) ∗ ow c O) -∗ WP c (p (pm xs ws c (i + 1))) Q)
        -∗ WP c (fin xM wM oM c (Ch.at' i) (pm xs ws c i) p) Q) := by
  iintro ⟨#HR, Hx, Hw, Ho, Hst, Hcr, HO⟩ Hk
  unfold fin
  dsimp only [st]
  icases Hst with ⟨Ha, Hb, Hc, Hcs, -⟩
  iapply (wts_spec xs ws K c (Ch.at' i) 14 (by decide) (O := O) (hO.mono (by rw [ix_at _ hi]; omega))) $$ [Ha Hb Hcs Hcr HO]
  · isplitr; · iexact HR
    isplitl [Ha]; · iexact Ha
    isplitl [Hb]; · iexact Hb
    isplitl [Hcs]; · iexact Hcs
    isplitl [Hcr]; · iexact Hcr
    iexact HO
  iintro ⟨Ha, Hb, -, -, Hs, Hr, -, Hrows, HO⟩
  iapply (wp_ldX xs c _ _) $$ Hx; iintro Hx
  iapply (wp_ldW ws c _ _) $$ Hw; iintro Hw
  iapply (wp_ldR c (Ch.at' i) _ _) $$ Hr; iintro Hr
  unfold oI
  icases Ho with ⟨%f, %hf, Ho⟩
  iapply (wp_load 𝒱₀ (c : Thread nD τ) none Set.univ (m := oM) (Finset.subset_univ _)) $$ Ho; iintro Ho
  iapply (wp_store 𝒱₀ (c : Thread nD τ) none Set.univ (m := oM) (r := wRect (Ch.at' i)) (Mk := Finset.univ)
    (Finset.subset_univ _)) $$ Ho
  iintro Ho
  iapply Hk
  isplitl [Hx]; · iexact Hx
  isplitl [Hw]; · iexact Hw
  isplitl [Ho]
  · iexists _; isplitr; · (ipureintro; exact good_succ xs ws c i hi f hf)
    iexact Ho
  isplitr [HO]
  · unfold dn
    isplitl [Ha]; · iexact Ha
    isplitl [Hb]; · iexact Hb
    isplitl [Hc]; · iexact Hc
    isplitl [Hs]; · iexact Hs
    isplitl [Hr]; · iapply (owC_of c _ _); iexact Hr
    iapply (rows_last (Ch.at' i) c); iexact Hrows
  iexact HO

/-- What the last steps take, before `R`. -/
def finStock (c : Dev nD) (R : sProp 𝕄) : ℕ → ℕ → sProp 𝕄
  | 0, _ => R
  | n + 1, i => iprop(cred (tallyAt (cell c (kR (Ch.at' i))) 14 NB) ∗ finStock c R n (i + 1))

/-- The channels with the first `i` at their end. -/
def fSt (c : Dev nD) (i : ℕ) : sProp 𝕄 := bigSep Finset.univ fun k => if k.ix < i then dn c k else st c k 15
def fOthers (c : Dev nD) (i : ℕ) : sProp 𝕄 :=
  bigSep (Finset.univ.erase (Ch.at' i)) fun k => if k.ix < i then dn c k else st c k 15

theorem fSt_open (c : Dev nD) (i : ℕ) (hi : i < 8) : fSt (F := F) c i = iprop(st c (Ch.at' i) 15 ∗ fOthers c i) := by
  unfold fSt fOthers
  rw [univ_split _ (Ch.at' i), ix_at _ hi, if_neg (Nat.lt_irrefl _)]
theorem fSt_close (c : Dev nD) (i : ℕ) (hi : i < 8) : fSt (F := F) c (i + 1) = iprop(dn c (Ch.at' i) ∗ fOthers c i) := by
  unfold fSt fOthers
  rw [univ_split _ (Ch.at' i), ix_at _ hi, if_pos (Nat.lt_succ_self _)]
  congr 1
  refine bigSep_congr fun k hk => ?_
  have h1 := ne_ix (Finset.ne_of_mem_erase hk)
  by_cases h : k.ix < i
  · rw [if_pos h, if_pos (by omega)]
  · rw [if_neg h, if_neg (by omega)]

/-- The last steps. -/
theorem fins_spec (c : Dev nD) (R : sProp 𝕄) {O : CellTallies nD τ sig ℕ} (hO : Above 250 O)
    {p : F .f32 → P F} {Q : PUnit → sProp 𝕄} :
    ∀ n i, i + n ≤ 8 →
    iprop(recs (A xs ws) (Pm xs ws) K ∗ xP xs c ∗ wP ws c ∗ oI xs ws c i ∗ fSt c i ∗ finStock c R n i ∗ ow c O)
      ⊢ iprop(((xP xs c ∗ wP ws c ∗ oI xs ws c (i + n) ∗ fSt c (i + n) ∗ R ∗ ow c O) -∗ WP c (p (pm xs ws c (i + n))) Q)
        -∗ WP c (fins xM wM oM c n i (pm xs ws c i) p) Q)
  | 0, i, _ => by
    iintro ⟨#HR, Hx, Hw, Ho, Hs, Hr, HO⟩ Hk
    dsimp only [finStock, fins]
    iapply Hk
    isplitl [Hx]; · iexact Hx
    isplitl [Hw]; · iexact Hw
    isplitl [Ho]; · iexact Ho
    isplitl [Hs]; · iexact Hs
    isplitl [Hr]; · iexact Hr
    iexact HO
  | n + 1, i, h => by
    dsimp only [finStock, fins]
    rw [fSt_open c i (by omega)]
    iintro ⟨#HR, Hx, Hw, Ho, Hs, Hr, HO⟩ Hk
    icases Hs with ⟨Hst, Hs⟩
    icases Hr with ⟨Hit, Hr⟩
    iapply (fin_spec xs ws K c i (by omega) hO) $$ [Hx Hw Ho Hst Hit HO]
    · isplitr; · iexact HR
      isplitl [Hx]; · iexact Hx
      isplitl [Hw]; · iexact Hw
      isplitl [Ho]; · iexact Ho
      isplitl [Hst]; · iexact Hst
      isplitl [Hit]; · iexact Hit
      iexact HO
    iintro ⟨Hx, Hw, Ho, Hst, HO⟩
    iapply (fins_spec c R hO n (i + 1) (by omega)) $$ [Hx Hw Ho Hst Hs Hr HO]
    · isplitr; · iexact HR
      isplitl [Hx]; · iexact Hx
      isplitl [Hw]; · iexact Hw
      isplitl [Ho]; · iexact Ho
      isplitl [Hst Hs]
      · rw [fSt_close c i (by omega)]; isplitl [Hst]; · iexact Hst
        iexact Hs
      isplitl [Hr]; · iexact Hr
      iexact HO
    rw [show i + 1 + n = i + (n + 1) by omega]
    iexact Hk

end Run

end Cert.KernelIdeal.Hand
-- ==== Proof.KernelIdeal.Table.lean ====
/- The table of maxima: each device stores its own row, sends it to the fifteen others under shares of it lent one after
   another, receives theirs, quantises its result by the greatest, and takes the lent shares back. -/
module

public import proofs.«01_k».proof.Proof.KernelIdeal.Loops

@[expose] public section

set_option maxRecDepth 4000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Rows -/

/-- A place of the table by its row. -/
theorem mem_row (s : Dev nD) (i : S16x8x128.Idx) : i ∈ (rowM s).view.set ↔ (i 0).val = s.val := by
  have hset : (rowM s).view.set = (aM.slice (Rect.unit (s := S16x8x128) (k0_off6 s) S1x8x128.size (k0_off6_inb s)) (fun _ => rfl)).view.set :=
    View.set_reshape (v := (aM.slice (Rect.unit (s := S16x8x128) (k0_off6 s) S1x8x128.size (k0_off6_inb s)) (fun _ => rfl)).view)
      squeezes_S1x8x128_S8x128.numel_eq
  rw [hset]
  have hv : ∀ (y : S1x8x128.Idx) (a : Fin 3), (((aM.slice (Rect.unit (s := S16x8x128) (k0_off6 s) S1x8x128.size (k0_off6_inb s))
      (fun _ => rfl)).view.emb y : S16x8x128.Idx) a).val = (![s.val, 0, 0] : Fin 3 → ℕ) a + (y a).val := fun y a => by
    rw [← k0_off6_eq s]
    show k0_off6 s a + 1 * (y a).val = _
    omega
  constructor
  · intro h
    obtain ⟨y, -, rfl⟩ := Finset.mem_map.mp h
    have h1 := hv y 0
    have h0 : (y 0).val < 1 := (y 0).isLt
    have h2 : (![s.val, 0, 0] : Fin 3 → ℕ) 0 = s.val := rfl
    omega
  · intro h
    refine Finset.mem_map.mpr ⟨(Fin.cons (0 : Fin 1) (Fin.cons (i 1 : Fin 8) (Fin.cons (i 2 : Fin 128) finZeroElim)) : S1x8x128.Idx),
      Finset.mem_univ _, funext fun a => Fin.ext ?_⟩
    refine (hv _ a).trans ?_
    fin_cases a
    · exact h.symm
    · exact Nat.zero_add _
    · exact Nat.zero_add _

/-- The rectangle of a device's own row covers the row. -/
theorem mem_arect (s : Dev nD) (i : S16x8x128.Idx) (h : (i 0).val = s.val) :
    ∃ y : S1x8x128.Idx, (aM.access (aRect s)).emb y = i := by
  refine ⟨(Fin.cons (0 : Fin 1) (Fin.cons (i 1 : Fin 8) (Fin.cons (i 2 : Fin 128) finZeroElim)) : S1x8x128.Idx),
    funext fun a => Fin.ext ?_⟩
  show k0_off4 s a + 1 * _ = _
  rw [k0_off4_eq s]
  fin_cases a
  · exact h.symm
  · show 0 + 1 * (i 1).val = (i 1).val; omega
  · show 0 + 1 * (i 2).val = (i 2).val; omega

theorem arect_sub (s : Dev nD) : (aM.access (aRect s)).set ⊆ (rowM s).view.set := fun i hi => by
  obtain ⟨y, -, rfl⟩ := Finset.mem_map.mp hi
  refine (mem_row s _).mpr ?_
  show k0_off4 s 0 + 1 * (y 0).val = s.val
  have h0 : (y 0).val < 1 := (y 0).isLt
  rw [k0_off4_eq s]
  show s.val + 1 * (y 0).val = s.val
  omega

/-- A view rewritten with what it reads of `f` holds `f`. -/
theorem write_read_eq {sp : Space} {s : Shape} {e : EltTy} (v : View sig .tc sp s e) (g f : v.ty.Contents (Elt F)) (i : v.ty.Idx)
    (hi : i ∈ v.set) : v.write (Elt F) g (v.read (Elt F) f) Finset.univ i = f i := by
  obtain ⟨y, -, rfl⟩ := Finset.mem_map.mp hi
  rw [View.write_emb_of_mem _ _ (Finset.mem_univ y), View.read_apply, cast_cast, cast_eq]

theorem own_row_eq (Pm : Dev nD → F .f32) (s : Dev nD) (f : (cc0_scratch19 : Ref sig .tc).ty.Contents (Elt F)) (i : S16x8x128.Idx)
    (hi : i ∈ (rowM s).view.set) : (aM.access (aRect s)).write (Elt F) f (rowOf (Pm s)) Finset.univ i = Tab Pm i := by
  have h := (mem_row s i).mp hi
  obtain ⟨y, rfl⟩ := mem_arect s i h
  refine (View.write_emb_of_mem (v := aM.access (aRect s)) _ _ (Finset.mem_univ y)).trans ?_
  show Pm s = Pm ⟨_, _⟩
  exact congrArg Pm (Fin.ext h.symm)

/-- The table is its rows. -/
theorem whole_rows (c : Dev nD) (q : PosShare TreeShare) (f : (cc0_scratch19 : Ref sig .tc).ty.Contents (Elt F)) :
    (((c : Thread nD τ).loc cc0_scratch19) ↦{q} f : sProp 𝕄) = bigSep Finset.univ fun s => rowP (F := F) c s q f := by
  have hu : (Finset.univ : Finset (Dev nD)).biUnion (fun s => (rowM s).view.set)
      = (Finset.univ : Finset (Idx ((c : Thread nD τ).loc cc0_scratch19))) := by
    refine Finset.eq_univ_iff_forall.mpr fun i => Finset.mem_biUnion.mpr ?_
    exact ⟨⟨((i : S16x8x128.Idx) 0).val, ((i : S16x8x128.Idx) 0).isLt⟩, Finset.mem_univ _, (mem_row _ i).mpr rfl⟩
  have hd : ∀ s ∈ (Finset.univ : Finset (Dev nD)), ∀ s' ∈ (Finset.univ : Finset (Dev nD)), s ≠ s' →
      Disjoint (rowM s).view.set (rowM s').view.set := fun s _ s' _ hne => Finset.disjoint_left.mpr fun i h1 h2 =>
    hne (Fin.ext (((mem_row s i).mp h1).symm.trans ((mem_row s' i).mp h2)))
  have h := pointsTo_biUnion (ℓ := (c : Thread nD τ).loc cc0_scratch19) (q := q) (f := f) (Ix := ℕ) (Name := ℕ) (U := UU) (Lvl := ℕ)
    (Finset.univ : Finset (Dev nD)) (fun s => (rowM s).view.set) hd
  rw [hu] at h
  exact h

theorem row_halves (Pm : Dev nD → F .f32) (e s : Dev nD) (n : ℕ) :
    rowT Pm e s (keep n) = iprop(rowT Pm e s (lend n) ∗ rowT Pm e s (keep (n + 1))) := by
  have h := pointsTo_share (ℓ := (rowM s).view.loc (e : Thread nD τ)) (I := (rowM s).view.set) (f := Tab Pm) (Ix := ℕ) (Name := ℕ)
    (U := UU) (Lvl := ℕ) (PosShare.mem_left_op_right (keep n))
  exact BI.Entails.antisymm h.1 h.2

theorem emp_sep (X : sProp 𝕄) : X = iprop(emp ∗ X) :=
  BI.Entails.antisymm (show X ⊢ iprop(emp ∗ X) by
      iintro H
      isplitl []; · iempintro
      iexact H)
    (show iprop(emp ∗ X) ⊢ X by iintro ⟨-, H⟩; iexact H)
theorem sep_shuffle (X Y Z : sProp 𝕄) : iprop(X ∗ Y ∗ Z) = iprop((Y ∗ X) ∗ Z) :=
  BI.Entails.antisymm (show iprop(X ∗ Y ∗ Z) ⊢ iprop((Y ∗ X) ∗ Z) by
      iintro ⟨H, H1, H2⟩
      isplitr [H2]; · (isplitl [H1] <;> iassumption)
      iexact H2)
    (show iprop((Y ∗ X) ∗ Z) ⊢ iprop(X ∗ Y ∗ Z) by
      iintro ⟨⟨H1, H⟩, H2⟩
      isplitl [H]; · iexact H
      isplitl [H1] <;> iassumption)

/-- What is kept after `n` loans, and the loans. -/
theorem row_lends (Pm : Dev nD → F .f32) (e s : Dev nD) : ∀ n : ℕ,
    rowT Pm e s fullShare = iprop((bigSep (Finset.range n) fun j => rowT Pm e s (lend j)) ∗ rowT Pm e s (keep n))
  | 0 => by
    rw [Finset.range_zero, bigSep_empty]
    exact emp_sep _
  | n + 1 => by
    rw [row_lends Pm e s n, row_halves, range_succ_sep]
    exact sep_shuffle _ _ _

/-! ## All devices, from one -/

theorem bk_inj (c : Dev nD) : ∀ x ∈ Finset.Ico 0 15, ∀ y ∈ Finset.Ico 0 15, bk c (x + 1) = bk c (y + 1) → x = y := fun x hx y hy h => by
  have h1 := (Finset.mem_Ico.mp hx).2
  have h2 := (Finset.mem_Ico.mp hy).2
  have h3 : (c.val + 15 * (x + 1)) % 16 = (c.val + 15 * (y + 1)) % 16 := congrArg Fin.val h
  omega
theorem fw_inj (c : Dev nD) : ∀ x ∈ Finset.Ico 0 15, ∀ y ∈ Finset.Ico 0 15, fw c (x + 1) = fw c (y + 1) → x = y := fun x hx y hy h => by
  have h1 := (Finset.mem_Ico.mp hx).2
  have h2 := (Finset.mem_Ico.mp hy).2
  have h3 : (c.val + (x + 1)) % 16 = (c.val + (y + 1)) % 16 := congrArg Fin.val h
  omega
theorem bk_ne (c : Dev nD) (i : ℕ) (h : i < 15) : bk c (i + 1) ≠ c := fun e => by
  have h3 : (c.val + 15 * (i + 1)) % 16 = c.val := congrArg Fin.val e
  have := dev_lt c
  omega
theorem fw_ne (c : Dev nD) (i : ℕ) (h : i < 15) : fw c (i + 1) ≠ c := fun e => by
  have h3 : (c.val + (i + 1)) % 16 = c.val := congrArg Fin.val e
  have := dev_lt c
  omega

theorem devs_bk (c : Dev nD) (Φ : Dev nD → sProp 𝕄) :
    bigSep Finset.univ Φ = iprop(Φ c ∗ bigSep (Finset.Ico 0 15) fun i => Φ (bk c (i + 1))) := by
  have hu : (Finset.univ : Finset (Dev nD)) = insert c ((Finset.Ico 0 15).image fun i => bk c (i + 1)) := by
    refine (Finset.eq_univ_iff_forall.mpr fun d => ?_).symm
    by_cases h : d = c
    · rw [h]; exact Finset.mem_insert_self _ _
    · refine Finset.mem_insert_of_mem (Finset.mem_image.mpr ⟨(c.val + 15 - d.val) % 16, ?_, Fin.ext ?_⟩)
      · have h1 := dev_lt c; have h2 := dev_lt d
        have h3 : d.val ≠ c.val := fun e => h (Fin.ext e)
        rw [Finset.mem_Ico]; omega
      · show (c.val + 15 * ((c.val + 15 - d.val) % 16 + 1)) % 16 = d.val
        have h1 := dev_lt c; have h2 := dev_lt d
        omega
  rw [hu, bigSep_insert (fun h => by
    obtain ⟨i, hi, e⟩ := Finset.mem_image.mp h
    exact bk_ne c i (Finset.mem_Ico.mp hi).2 e)]
  exact congrArg (fun x => iprop(Φ c ∗ x)) (Finset.fold_image (bk_inj c))
theorem devs_fw (c : Dev nD) (Φ : Dev nD → sProp 𝕄) :
    bigSep Finset.univ Φ = iprop(Φ c ∗ bigSep (Finset.Ico 0 15) fun i => Φ (fw c (i + 1))) := by
  have hu : (Finset.univ : Finset (Dev nD)) = insert c ((Finset.Ico 0 15).image fun i => fw c (i + 1)) := by
    refine (Finset.eq_univ_iff_forall.mpr fun d => ?_).symm
    by_cases h : d = c
    · rw [h]; exact Finset.mem_insert_self _ _
    · refine Finset.mem_insert_of_mem (Finset.mem_image.mpr ⟨(d.val + 15 - c.val) % 16, ?_, Fin.ext ?_⟩)
      · have h1 := dev_lt c; have h2 := dev_lt d
        have h3 : d.val ≠ c.val := fun e => h (Fin.ext e)
        rw [Finset.mem_Ico]; omega
      · show (c.val + ((d.val + 15 - c.val) % 16 + 1)) % 16 = d.val
        have h1 := dev_lt c; have h2 := dev_lt d
        omega
  rw [hu, bigSep_insert (fun h => by
    obtain ⟨i, hi, e⟩ := Finset.mem_image.mp h
    exact fw_ne c i (Finset.mem_Ico.mp hi).2 e)]
  exact congrArg (fun x => iprop(Φ c ∗ x)) (Finset.fold_image (fw_inj c))
theorem fin15 (Φ : Fin 15 → sProp 𝕄) :
    bigSep Finset.univ Φ = bigSep (Finset.Ico 0 15) fun i => Φ (Fin.ofNat 15 i) := by
  rw [show (Finset.univ : Finset (Fin 15)) = (Finset.Ico 0 15).image (Fin.ofNat 15) by decide]
  exact Finset.fold_image (by decide)

theorem Ico_sep (i : ℕ) (h : i < 15) (Φ : ℕ → sProp 𝕄) :
    bigSep (Finset.Ico i 15) Φ = iprop(Φ i ∗ bigSep (Finset.Ico (i + 1) 15) Φ) := by
  rw [bigSep_Ico_succ_bot h]

/-! ## The transfers -/

theorem aDev_eq (c : Dev nD) (o : Fin 15) : aDev c o = fw c (o.val + 1) := Fin.ext (aDevN_eq c o)

theorem awSem_eq (c : Dev nD) (o : Fin 15) : awSem c o = arSem (bk c (o.val + 1)) := by
  revert c o; decide +kernel

section Run

variable (A : Ch → ℕ → Dev nD → Vec F S256x1024 .bf16) (Pm : Dev nD → F .f32) (K : Dev nD × CK → ℕ)

theorem dut_ar (c e : Dev nD) (h : e ≠ c) : dut (kAr c) e 0 = {false} := if_pos ⟨rfl, h⟩

/-- A row sent. -/
theorem wp_row (c e e' : Dev nD) (he : e' = e) (o : Fin 15) (hne : e ≠ c) (O : CellTallies nD τ sig ℕ) (ht) {p : P F} {Q : PUnit → sProp 𝕄} :
    iprop(recs A Pm K ∗ rowT Pm c c (lend o.val) ∗ rowE e c ∗ ow c (tallyAt (cell e (kAr c)) 0 NA + O)
        ∗ dutyTok ER (cell c (kAs o)) 0 false ∗ dutyTok ER (cell e (kAr c)) 0 false)
      ⊢ iprop(((cred (tallyAt (cell c (kAs o)) 0 NA) ∗ ow c O) -∗ WP c p Q)
        -∗ WP c (.op (.enqueueDma (rowM c) (.remote (Dev.tc e') (rowM c) (.dma (asSem o))) (.dma (arSem c)) (hRow c) (hRow c) ht)
          fun _ => p) Q) := by
  subst he
  iintro ⟨#HR, Hs, Hd, HO, Ht1, Ht2⟩ Hk
  unfold ow rowE rowT rowP
  icases HO with ⟨%W, HO⟩
  icases Hd with ⟨%fd, Hd⟩
  have hd1 : false ∈ (Rd A Pm).duties (cell c (kAs o)) 0 := by rw [Rd_duties]; exact Finset.mem_singleton_self _
  have hd2 : false ∈ (Rd A Pm).duties (cell e' (kAr c)) 0 := by rw [Rd_duties, dut_ar c e' hne]; exact Finset.mem_singleton_self _
  iapply (Rounds.wp_send_pointsTo_with 𝒱₀ ER (Rd A Pm) (c : Thread nD τ) none (κ₁ := K (c, kAs o)) (κ₂ := K (e', kAr c))
      (c' := ((e' : Dev nD) : Thread nD τ)) (src := rowM c) (dst := rowM c) (sS := .dma (asSem o)) (sem := .dma (arSem c))
      (r₁ := 0) (r₂ := 0) (d₁ := false) (d₂ := false) (fd := fd) (fs := Tab Pm) (q := lend o.val) (F := iprop(emp)) hd1 hd2
      0 0 NA rfl (Rd_amount A Pm c (kAs o) 0 false) (Rd_amount A Pm e' (kAr c) 0 false) O (add_comm _ _) (W := W)
      (Entails.of_eq (Rd_payload A Pm c (kAs o) 0 false).symm)
      (by
        refine BIBase.Entails.trans ?_ (Entails.of_eq (Rd_payload A Pm e' (kAr c) 0 false).symm)
        dsimp only [payl]; unfold rowT rowP
        iintro ⟨H, -⟩
        iapply (Entails.of_eq (pointsTo_congr (fun i hi => write_read_eq (rowM c).view fd (Tab Pm) i hi))) $$ H)) $$ [Hs Hd HO Ht1 Ht2]
  · isplitr; · iapply (inv_at A Pm K c (kAs o)); iexact HR
    isplitr; · iapply (inv_at A Pm K e' (kAr c)); iexact HR
    isplitl [Hs]; · iexact Hs
    isplitl [Hd]; · isplitl [Hd]; · iexact Hd
                    iempintro
    isplitl [HO]; · iexact HO
    isplitl [Ht1]; · iexact Ht1
    isplitr; · iapply (reached_at A Pm K c (kAs o)); iexact HR
    isplitl [Ht2]; · iexact Ht2
    iapply (reached_at A Pm K e' (kAr c)); iexact HR
  iintro ⟨Hc, HO⟩
  iapply Hk
  isplitl [Hc]; · iexact Hc
  iexists _; iexact HO

/-- The rights the `i`-th send of the row uses. -/
def aTok (c : Dev nD) (i : ℕ) : sProp 𝕄 :=
  iprop(dutyTok ER (cell c (kAs (Fin.ofNat 15 i))) 0 false ∗ dutyTok ER (cell (fw c (i + 1)) (kAr c)) 0 false)
/-- What the sends of the row owe. -/
def oA (c : Dev nD) (T : CellTallies nD τ sig ℕ) : ℕ → ℕ → CellTallies nD τ sig ℕ
  | 0, _ => T
  | n + 1, i => tallyAt (cell (fw c (i + 1)) (kAr c)) 0 NA + oA c T n (i + 1)
theorem above_oA (c : Dev nD) {T : CellTallies nD τ sig ℕ} (hT : Above 250 T) : ∀ n i, Above 250 (oA c T n i)
  | 0, _ => hT
  | n + 1, i => (Above.tally _ _ _ _ _ (by omega) (by dsimp only [lvl]; omega)).add (above_oA c hT n (i + 1))

theorem ofNat_val (i : ℕ) (h : i < 15) : (Fin.ofNat 15 i).val = i := Nat.mod_eq_of_lt h

theorem aSends_spec (c : Dev nD) (T : CellTallies nD τ sig ℕ) {p : P F} {Q : PUnit → sProp 𝕄} :
    ∀ n i, i + n = 15 →
    iprop(recs A Pm K ∗ rowT Pm c c (keep i) ∗ (bigSep (Finset.Ico i 15) fun i => rowE (fw c (i + 1)) c)
        ∗ bigSep (Finset.Ico i 15) (aTok c) ∗ ow c (oA c T n i))
      ⊢ iprop(((rowT Pm c c (keep 15) ∗ (bigSep (Finset.Ico i 15) fun i => cred (tallyAt (cell c (kAs (Fin.ofNat 15 i))) 0 NA)) ∗ ow c T)
          -∗ WP c p Q) -∗ WP c (aSends c n i p) Q)
  | 0, i, h => by
    obtain rfl : i = 15 := by omega
    rw [Finset.Ico_self, bigSep_empty, bigSep_empty, bigSep_empty]
    iintro ⟨#HR, Hr, -, -, HO⟩ Hk
    dsimp only [oA, aSends]
    iapply Hk
    isplitl [Hr]; · iexact Hr
    isplitl []; · iempintro
    iexact HO
  | n + 1, i, h => by
    dsimp only [oA, aSends]
    rw [Ico_sep i (by omega) (aTok c), Ico_sep i (by omega) (fun i => rowE (fw c (i + 1)) c),
      Ico_sep i (by omega) (fun i => cred (tallyAt (cell c (kAs (Fin.ofNat 15 i))) 0 NA)), row_halves]
    iintro ⟨#HR, ⟨Hl, Hr⟩, ⟨Hd, Hds⟩, ⟨Ht, Hts⟩, HO⟩ Hk
    unfold aTok
    icases Ht with ⟨Ht1, Ht2⟩
    iapply (wp_row A Pm K c (fw c (i + 1)) (aDev c (Fin.ofNat 15 i)) (by rw [aDev_eq, ofNat_val i (by omega)]) (Fin.ofNat 15 i)
      (fw_ne c i (by omega)) (oA c T n (i + 1)) _) $$ [Hl Hd HO Ht1 Ht2]
    · isplitr; · iexact HR
      isplitl [Hl]; · rw [ofNat_val i (by omega)]; iexact Hl
      isplitl [Hd]; · iexact Hd
      isplitl [HO]; · iexact HO
      isplitl [Ht1]; · iexact Ht1
      iexact Ht2
    iintro ⟨Hc, HO⟩
    iapply (aSends_spec c T n (i + 1) (by omega)) $$ [Hr Hds Hts HO]
    · isplitr; · iexact HR
      isplitl [Hr]; · iexact Hr
      isplitl [Hds]; · iexact Hds
      isplitl [Hts]; · unfold aTok; iexact Hts
      iexact HO
    iintro ⟨Hr, Hcs, HO⟩
    iapply Hk
    isplitl [Hr]; · iexact Hr
    isplitr [HO]
    · isplitl [Hc] <;> iassumption
    iexact HO

/-- The cell of the `i`-th row awaited: its position and credit before, its row after. -/
def arPre (c : Dev nD) (i : ℕ) : sProp 𝕄 :=
  iprop(cred (tallyAt (cell c (kAr (bk c (i + 1)))) 0 NA) ∗ atPos ER (cell c (kAr (bk c (i + 1)))) 0 ∅ 0)
def arPost (c : Dev nD) (i : ℕ) : sProp 𝕄 :=
  iprop(atPos ER (cell c (kAr (bk c (i + 1)))) 1 ∅ 0 ∗ rowT Pm c (bk c (i + 1)) fullShare)

theorem aRecvs_spec (c : Dev nD) {O : CellTallies nD τ sig ℕ} (hO : Above 300 O) {p : P F} {Q : PUnit → sProp 𝕄} :
    ∀ n i, i + n = 15 →
    iprop(recs A Pm K ∗ bigSep (Finset.Ico i 15) (arPre c) ∗ ow c O)
      ⊢ iprop(((bigSep (Finset.Ico i 15) (arPost Pm c) ∗ ow c O) -∗ WP c p Q) -∗ WP c (aRecvs c n i p) Q)
  | 0, i, h => by
    obtain rfl : i = 15 := by omega
    rw [Finset.Ico_self, bigSep_empty, bigSep_empty]
    iintro ⟨#HR, -, HO⟩ Hk
    dsimp only [aRecvs]
    iapply Hk
    isplitl []; · iempintro
    iexact HO
  | n + 1, i, h => by
    dsimp only [aRecvs]
    rw [Ico_sep i (by omega) (arPre c), Ico_sep i (by omega) (arPost Pm c)]
    iintro ⟨#HR, ⟨Ht, Hts⟩, HO⟩ Hk
    unfold arPre
    icases Ht with ⟨Hc, Ha⟩
    iapply (wp_wait1 A Pm K c (kAr (bk c (i + 1))) 0 NA
        (fun Q => (wpE_waitDma2_eq 𝒱₀ (c : Thread nD τ) none Set.univ Q).trans
          (by rw [awSem_eq, ofNat_val i (by omega)]; rfl))
        (dut_ar _ c (bk_ne c i (by omega)).symm) rfl (by omega) 300 (Nat.le_refl _) hO) $$ [Hc Ha HO]
    · isplitr; · iexact HR
      isplitl [Hc]; · iexact Hc
      isplitl [HO]; · iexact HO
      iexact Ha
    iintro ⟨HO, Ha, -, Hp⟩
    dsimp only [payl]
    iapply (aRecvs_spec c hO n (i + 1) (by omega)) $$ [Hts HO]
    · isplitr; · iexact HR
      isplitl [Hts]; · unfold arPre; iexact Hts
      iexact HO
    iintro ⟨Hps, HO⟩
    iapply Hk
    isplitr [HO]
    · isplitr [Hps]
      · unfold arPost; isplitl [Ha] <;> iassumption
      iexact Hps
    iexact HO

/-- The cell of the `i`-th send: its position and credit before, the lent share after. -/
def asPre (c : Dev nD) (i : ℕ) : sProp 𝕄 :=
  iprop(cred (tallyAt (cell c (kAs (Fin.ofNat 15 i))) 0 NA) ∗ atPos ER (cell c (kAs (Fin.ofNat 15 i))) 0 ∅ 0)
def asPost (c : Dev nD) (i : ℕ) : sProp 𝕄 :=
  iprop(atPos ER (cell c (kAs (Fin.ofNat 15 i))) 1 ∅ 0 ∗ rowT Pm c c (lend i))

theorem aDones_spec (c : Dev nD) {O : CellTallies nD τ sig ℕ} (hO : Above 0 O) {p : P F} {Q : PUnit → sProp 𝕄} :
    ∀ n i, i + n = 15 →
    iprop(recs A Pm K ∗ bigSep (Finset.Ico i 15) (asPre c) ∗ ow c O)
      ⊢ iprop(((bigSep (Finset.Ico i 15) (asPost Pm c) ∗ ow c O) -∗ WP c p Q) -∗ WP c (aDones c n i p) Q)
  | 0, i, h => by
    obtain rfl : i = 15 := by omega
    rw [Finset.Ico_self, bigSep_empty, bigSep_empty]
    iintro ⟨#HR, -, HO⟩ Hk
    dsimp only [aDones]
    iapply Hk
    isplitl []; · iempintro
    iexact HO
  | n + 1, i, h => by
    dsimp only [aDones]
    rw [Ico_sep i (by omega) (asPre c), Ico_sep i (by omega) (asPost Pm c)]
    iintro ⟨#HR, ⟨Ht, Hts⟩, HO⟩ Hk
    unfold asPre
    icases Ht with ⟨Hc, Ha⟩
    iapply (wp_wait1 A Pm K c (kAs (Fin.ofNat 15 i)) 0 NA
        (fun Q => (wpE_waitDma2_eq 𝒱₀ (c : Thread nD τ) none Set.univ Q).trans (by rfl))
        rfl rfl (by omega) 0 (Nat.le_refl _) hO) $$ [Hc Ha HO]
    · isplitr; · iexact HR
      isplitl [Hc]; · iexact Hc
      isplitl [HO]; · iexact HO
      iexact Ha
    iintro ⟨HO, Ha, -, Hp⟩
    dsimp only [payl]
    iapply (aDones_spec c hO n (i + 1) (by omega)) $$ [Hts HO]
    · isplitr; · iexact HR
      isplitl [Hts]; · unfold asPre; iexact Hts
      iexact HO
    iintro ⟨Hps, HO⟩
    iapply Hk
    isplitr [HO]
    · isplitr [Hps]
      · unfold asPost; isplitl [Ha]; · iexact Ha
        rw [ofNat_val i (by omega)]; iexact Hp
      iexact Hps
    iexact HO

/-! ## The barrier and the exit -/

theorem part_spec (c : Dev nD) (b : Bool) (s : Sem sig) (hs : csem (.inl b) = .reg s) {O : CellTallies nD τ sig ℕ}
    (hO : Above (lvl (.inl b) 0) O) {p : P F} {Q : PUnit → sProp 𝕄} :
    iprop(recs A Pm K ∗ dutyTok ER (cell (leftOf c) (.inl b)) 0 false ∗ payl A Pm (.inl b) (leftOf c) 0 false
        ∗ dutyTok ER (cell (rightOf c) (.inl b)) 0 true ∗ payl A Pm (.inl b) (rightOf c) 0 true
        ∗ cred (tallyAt (cell c (.inl b)) 0 2)
        ∗ ow c (tallyAt (cell (leftOf c) (.inl b)) 0 1 + (tallyAt (cell (rightOf c) (.inl b)) 0 1 + O))
        ∗ atPos ER (cell c (.inl b)) 0 ∅ 0)
      ⊢ iprop(((ow c O ∗ atPos ER (cell c (.inl b)) 1 ∅ 0 ∗ bigSep Finset.univ fun d => payl A Pm (.inl b) c 0 d) -∗ WP c p Q)
        -∗ WP c (part c s p) Q) := by
  have hd : ∀ e : Dev nD, dut (.inl b) e 0 = Finset.univ := fun _ => rfl
  iintro ⟨#HR, Ht1, Hp1, Ht2, Hp2, Hc, HO, Ha⟩ Hk
  unfold part
  iapply (wp_sig A Pm K c (leftOf c) (.inl b) s hs 0 false (by rw [hd]; exact Finset.mem_univ _) rfl
      (tallyAt (cell (rightOf c) (.inl b)) 0 1 + O)) $$ [HO Ht1 Hp1]
  · isplitr; · iexact HR
    isplitl [HO]; · iexact HO
    isplitl [Ht1]; · iexact Ht1
    isplitl [Hp1]; · iexact Hp1
    iapply (reached_at A Pm K (leftOf c) (.inl b)); iexact HR
  iintro HO
  iapply (wp_sig A Pm K c (rightOf c) (.inl b) s hs 0 true (by rw [hd]; exact Finset.mem_univ _) rfl O) $$ [HO Ht2 Hp2]
  · isplitr; · iexact HR
    isplitl [HO]; · iexact HO
    isplitl [Ht2]; · iexact Ht2
    isplitl [Hp2]; · iexact Hp2
    iapply (reached_at A Pm K (rightOf c) (.inl b)); iexact HR
  iintro HO
  iapply (wp_wait A Pm K c (.inl b) 0 2
      (fun Q => (wpE_semWait_eq 𝒱₀ (c : Thread nD τ) none Set.univ Q).trans (by rw [hs]; rfl))
      (by rw [hd]; rfl) (by omega) _ (Nat.le_refl _) hO) $$ [Hc HO Ha]
  · isplitr; · iexact HR
    isplitl [Hc]; · iexact Hc
    isplitl [HO]; · iexact HO
    iexact Ha
  rw [hd]
  iintro ⟨HO, Ha, -, Hp⟩
  iapply Hk
  isplitl [HO]; · iexact HO
  isplitl [Ha]; · iexact Ha
  iexact Hp

/-! ## A device's own row, the quantisation, the whole -/

theorem hz3 : (![0, 0, 0] : Fin 3 → Nat) = fun _ => 0 := funext fun a => by fin_cases a <;> rfl

/-- The whole table at a share. -/
def tabP (c : Dev nD) (q : PosShare TreeShare) : sProp 𝕄 := ((c : Thread nD τ).loc cc0_scratch19) ↦{q} (Tab Pm)
/-- The result's staging buffer. -/
def outP (c : Dev nD) (f : (cc0_stg2_0 : Ref sig .tc).ty.Contents (Elt F)) : sProp 𝕄 := ((c : Thread nD τ).loc cc0_stg2_0) ↦{fullShare} f

theorem own_spec (c : Dev nD) (h1) (h2) (h3) {p : P F} {Q : PUnit → sProp 𝕄} :
    rowE (F := F) c c ⊢ iprop((rowT Pm c c fullShare -∗ WP c p Q)
      -∗ WP c (.op (.load aM (aRect c).toLoadRect h1) fun _ =>
        .op (.store aM (aRect c) (rowOf (Pm c)) Finset.univ h2 h3) fun _ => p) Q) := by
  unfold rowE rowP
  iintro ⟨%f, H⟩ Hk
  have hc : ((aM.access (aRect c)).loc (c : Thread nD τ) ↦[(rowM c).view.set]{fullShare}
      ((aM.access (aRect c)).write (Elt F) f (rowOf (Pm c)) Finset.univ) : sProp 𝕄) = rowT Pm c c fullShare :=
    pointsTo_congr (fun i hi => own_row_eq Pm c f i hi)
  ihave H := (show ((rowM c).view.loc (c : Thread nD τ) ↦[(rowM c).view.set]{fullShare} f : sProp 𝕄)
    ⊢ ((aM.access (aRect c)).loc (c : Thread nD τ) ↦[(rowM c).view.set]{fullShare} f) from Entails.of_eq rfl) $$ H
  iapply (wp_load_rect 𝒱₀ (c : Thread nD τ) none Set.univ (m := aM) (r := aRect c) (S := (rowM c).view.set) (f := f) (q := fullShare) (arect_sub c)) $$ H
  iintro H
  iapply (wp_store 𝒱₀ (c : Thread nD τ) none Set.univ (m := aM) (r := aRect c) (w := rowOf (Pm c)) (Mk := Finset.univ)
    (S := (rowM c).view.set) (f := f) (arect_sub c)) $$ H
  iintro H
  iapply Hk
  iapply (Entails.of_eq hc) $$ H

theorem quant_spec (c : Dev nD) (q : PosShare TreeShare) (f : (cc0_stg2_0 : Ref sig .tc).ty.Contents (Elt F)) {p : P F} {Q : PUnit → sProp 𝕄} :
    iprop(tabP Pm c q ∗ outP c f)
      ⊢ iprop(((tabP Pm c q ∗ outP c (k0_pay194 (F := F) (Tab Pm) f)) -∗ WP c p Q) -∗ WP c (quant oM p) Q) := by
  unfold quant tabP outP
  have ha : aM.view.readAt (Elt F) tabRect.toLoadRect (Tab Pm) = Tab Pm :=
    Memref.readAt_unit_zero (Elt F) cc0_scratch19 hz3 inb_S16x8x128_S16x8x128_0_0_0 (Tab Pm)
  have hy : oM.view.readAt (Elt F) outRect.toLoadRect f = f :=
    Memref.readAt_unit_zero (Elt F) cc0_stg2_0 hz2 inb_S256x8192_S256x8192_0_0 f
  have ho : ∀ v : FVec F S256x8192 .f32, (oM.access outRect).write (Elt F) f v Finset.univ = v := fun v =>
    Memref.write_access_unit_zero_univ (Elt F) cc0_stg2_0 hz2 inb_S256x8192_S256x8192_0_0 f v
  iintro ⟨Ha, Ho⟩ Hk
  iapply (wp_load 𝒱₀ (c : Thread nD τ) none Set.univ (m := aM) (Finset.subset_univ _)) $$ Ha; iintro Ha
  iapply (wp_load 𝒱₀ (c : Thread nD τ) none Set.univ (m := oM) (Finset.subset_univ _)) $$ Ho; iintro Ho
  iapply (wp_load 𝒱₀ (c : Thread nD τ) none Set.univ (m := oM) (Finset.subset_univ _)) $$ Ho; iintro Ho
  iapply (wp_store 𝒱₀ (c : Thread nD τ) none Set.univ (m := oM) (r := outRect) (Mk := Finset.univ) (Finset.subset_univ _)) $$ Ho
  iintro Ho
  iapply Hk
  isplitl [Ha]; · iexact Ha
  have e : (oM.access outRect).write (Elt F) f (k0_pay194 (aM.view.readAt (Elt F) tabRect.toLoadRect (Tab Pm))
      (oM.view.readAt (Elt F) outRect.toLoadRect f)) Finset.univ = k0_pay194 (Tab Pm) f := by rw [ha, hy]; exact ho _
  iapply (Entails.of_eq (congrArg (fun v => (((c : Thread nD τ).loc cc0_stg2_0) ↦{fullShare} v : sProp 𝕄)) e)) $$ Ho

/-- What of the received rows was not kept. -/
def rests (c : Dev nD) : sProp 𝕄 :=
  bigSep (Finset.Ico 0 15) fun i => bigSep (Finset.range 15) fun j => rowT Pm c (bk c (i + 1)) (lend j)

theorem sep_assoc_eq (X Y Z : sProp 𝕄) : iprop(X ∗ Y ∗ Z) = iprop((X ∗ Z) ∗ Y) :=
  BI.Entails.antisymm (show iprop(X ∗ Y ∗ Z) ⊢ iprop((X ∗ Z) ∗ Y) by
      iintro ⟨H, H1, H2⟩
      isplitr [H1]; · (isplitl [H] <;> iassumption)
      iexact H1)
    (show iprop((X ∗ Z) ∗ Y) ⊢ iprop(X ∗ Y ∗ Z) by
      iintro ⟨⟨H, H2⟩, H1⟩
      isplitl [H]; · iexact H
      isplitl [H1] <;> iassumption)

theorem tab_in (c : Dev nD) :
    iprop(rowT Pm c c (keep 15) ∗ bigSep (Finset.Ico 0 15) fun i => rowT Pm c (bk c (i + 1)) fullShare)
      = iprop(tabP Pm c (keep 15) ∗ rests Pm c) := by
  have h1 : (bigSep (Finset.Ico 0 15) fun i => rowT Pm c (bk c (i + 1)) fullShare)
      = iprop(rests Pm c ∗ bigSep (Finset.Ico 0 15) fun i => rowT Pm c (bk c (i + 1)) (keep 15)) := by
    unfold rests
    refine Eq.trans ?_ (bigSep_sep _ _ _)
    exact congrArg _ (funext fun i => row_lends Pm c (bk c (i + 1)) 15)
  have h2 : tabP Pm c (keep 15) = iprop(rowT Pm c c (keep 15) ∗ bigSep (Finset.Ico 0 15) fun i => rowT Pm c (bk c (i + 1)) (keep 15)) :=
    (whole_rows c (keep 15) (Tab Pm)).trans (devs_bk c fun s => rowT Pm c s (keep 15))
  rw [h1, h2]
  exact sep_assoc_eq _ _ _

theorem tab_out (c : Dev nD) :
    iprop(tabP Pm c (keep 15) ∗ rests Pm c ∗ bigSep (Finset.Ico 0 15) fun i => rowT Pm c c (lend i)) ⊢ tabP Pm c fullShare := by
  have h1 : iprop(tabP Pm c (keep 15) ∗ rests Pm c)
      ⊢ iprop(rowT Pm c c (keep 15) ∗ bigSep (Finset.Ico 0 15) fun i => rowT Pm c (bk c (i + 1)) fullShare) :=
    Entails.of_eq (tab_in Pm c).symm
  have h2 : iprop((bigSep (Finset.Ico 0 15) fun i => rowT Pm c c (lend i)) ∗ rowT Pm c c (keep 15)) ⊢ rowT Pm c c fullShare :=
    Entails.of_eq ((row_lends Pm c c 15).trans (by rw [Finset.range_eq_Ico])).symm
  have h3 : iprop(rowT Pm c c fullShare ∗ bigSep (Finset.Ico 0 15) fun i => rowT Pm c (bk c (i + 1)) fullShare) ⊢ tabP Pm c fullShare :=
    Entails.of_eq ((whole_rows c fullShare (Tab Pm)).trans (devs_bk c fun s => rowT Pm c s fullShare)).symm
  iintro ⟨Ht, Hr, Hl⟩
  ihave H := h1 $$ [Ht Hr]
  · isplitl [Ht] <;> iassumption
  icases H with ⟨Hk, Hf⟩
  iapply h3
  isplitr [Hf]
  · iapply h2
    isplitl [Hl] <;> iassumption
  iexact Hf

/-! ## The table's part of the program -/

/-- What a device needs for the exit besides what it owes. -/
def exitPre (c : Dev nD) : sProp 𝕄 :=
  iprop(dutyTok ER (cell (leftOf c) kExit) 0 false ∗ dutyTok ER (cell (rightOf c) kExit) 0 true
    ∗ cred (tallyAt (cell c kExit) 0 2) ∗ atPos ER (cell c kExit) 0 ∅ 0)
def exitOwed (c : Dev nD) : CellTallies nD τ sig ℕ :=
  tallyAt (cell (leftOf c) kExit) 0 1 + (tallyAt (cell (rightOf c) kExit) 0 1 + 0)

theorem exit_above (c : Dev nD) : Above 300 (exitOwed c) :=
  (Above.tally _ _ _ _ _ (by omega) (by dsimp only [lvl, kExit]; omega)).add
    ((Above.tally _ _ _ _ _ (by omega) (by dsimp only [lvl, kExit]; omega)).add (Above.zero _))

theorem table_spec (c : Dev nD) (f : (cc0_stg2_0 : Ref sig .tc).ty.Contents (Elt F)) {Q : PUnit → sProp 𝕄} :
    iprop(recs A Pm K ∗ rowE c c ∗ (bigSep (Finset.Ico 0 15) fun i => rowE (fw c (i + 1)) c) ∗ bigSep (Finset.Ico 0 15) (aTok c)
        ∗ bigSep (Finset.Ico 0 15) (arPre c) ∗ (bigSep (Finset.Ico 0 15) fun i => atPos ER (cell c (kAs (Fin.ofNat 15 i))) 0 ∅ 0)
        ∗ outP c f ∗ exitPre c ∗ ow c (oA c (exitOwed c) 15 0))
      ⊢ iprop(((ow c 0 ∗ tabP Pm c fullShare ∗ outP c (k0_pay194 (F := F) (Tab Pm) f)
          ∗ atPos ER (cell c kExit) 1 ∅ 0
          ∗ (bigSep (Finset.Ico 0 15) fun i => atPos ER (cell c (kAr (bk c (i + 1)))) 1 ∅ 0)
          ∗ bigSep (Finset.Ico 0 15) fun i => atPos ER (cell c (kAs (Fin.ofNat 15 i))) 1 ∅ 0)
          -∗ |={Set.univ}=> Q ⟨⟩) -∗ WP c (table oM c (Pm c)) Q) := by
  have h0 : iprop((bigSep (Finset.Ico 0 15) fun i => cred (tallyAt (cell c (kAs (Fin.ofNat 15 i))) 0 NA))
      ∗ (bigSep (Finset.Ico 0 15) fun i => atPos ER (cell c (kAs (Fin.ofNat 15 i))) 0 ∅ 0)) ⊢ bigSep (Finset.Ico 0 15) (asPre (F := F) c) :=
    Entails.of_eq (bigSep_sep _ _ _).symm
  have h1 : bigSep (Finset.Ico 0 15) (arPost Pm c) ⊢ iprop((bigSep (Finset.Ico 0 15) fun i => atPos ER (cell c (kAr (bk c (i + 1)))) 1 ∅ 0)
      ∗ bigSep (Finset.Ico 0 15) fun i => rowT Pm c (bk c (i + 1)) fullShare) := Entails.of_eq (bigSep_sep _ _ _)
  have h2 : bigSep (Finset.Ico 0 15) (asPost Pm c)
      ⊢ iprop((bigSep (Finset.Ico 0 15) fun i => atPos ER (cell c (kAs (Fin.ofNat 15 i))) 1 ∅ 0)
      ∗ bigSep (Finset.Ico 0 15) fun i => rowT Pm c c (lend i)) := Entails.of_eq (bigSep_sep _ _ _)
  have h3 := exit_above c
  iintro ⟨#HR, Hown, Hrows, Htok, Har, Has, Ho, Hex, HO⟩ Hk
  unfold table
  iapply (own_spec Pm c _ _ _) $$ Hown
  iintro Hown
  iapply (aSends_spec A Pm K c (exitOwed c) 15 0 rfl) $$ [Hown Hrows Htok HO]
  · isplitr; · iexact HR
    isplitl [Hown]; · iexact Hown
    isplitl [Hrows]; · iexact Hrows
    isplitl [Htok]; · iexact Htok
    iexact HO
  iintro ⟨Hown, Hc, HO⟩
  iapply (aRecvs_spec A Pm K c h3 15 0 rfl) $$ [Har HO]
  · isplitr; · iexact HR
    isplitl [Har]; · iexact Har
    iexact HO
  iintro ⟨Har, HO⟩
  ihave Har := h1 $$ Har
  icases Har with ⟨Har, Hf⟩
  ihave Ht := (Entails.of_eq (tab_in Pm c)) $$ [Hown Hf]
  · isplitl [Hown] <;> iassumption
  icases Ht with ⟨Ht, Hrest⟩
  iapply (quant_spec Pm c (keep 15) f) $$ [Ht Ho]
  · isplitl [Ht] <;> iassumption
  iintro ⟨Ht, Ho⟩
  iapply (aDones_spec A Pm K c (h3.mono (by omega)) 15 0 rfl) $$ [Hc Has HO]
  · isplitr; · iexact HR
    isplitr [HO]
    · iapply h0; isplitl [Hc] <;> iassumption
    iexact HO
  iintro ⟨Has, HO⟩
  ihave Has := h2 $$ Has
  icases Has with ⟨Has, Hl⟩
  unfold exitPre exitOwed
  icases Hex with ⟨Ht1, Ht2, Hc, Ha⟩
  iapply (part_spec A Pm K c true cc0_scratch22.sem rfl (O := 0) (Above.zero _)) $$ [Ht1 Ht2 Hc Ha HO]
  · isplitr; · iexact HR
    isplitl [Ht1]; · iexact Ht1
    isplitl []; · dsimp only [payl]; iempintro
    isplitl [Ht2]; · iexact Ht2
    isplitl []; · dsimp only [payl]; iempintro
    isplitl [Hc]; · iexact Hc
    isplitl [HO]; · iexact HO
    iexact Ha
  iintro ⟨HO, Ha, -⟩
  unfold WP
  rw [wp_ret]
  iapply Hk
  isplitl [HO]; · iexact HO
  isplitl [Ht Hrest Hl]
  · iapply (tab_out Pm c)
    isplitl [Ht]; · iexact Ht
    isplitl [Hrest] <;> iassumption
  isplitl [Ho]; · iexact Ho
  isplitl [Ha]; · iexact Ha
  isplitl [Har] <;> iassumption

end Run

end Cert.KernelIdeal.Hand
-- ==== Proof.KernelIdeal.Deal.lean ====
/- What the devices are dealt: the rights to the payments each makes, and the payments each waits for. -/
module

public import proofs.«01_k».proof.Proof.KernelIdeal.Table

@[expose] public section

set_option maxRecDepth 4000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## Re-indexing -/

theorem sep_of (s : Finset ℕ) (Φ Ψ : ℕ → sProp 𝕄) : bigSep s (fun i => iprop(Φ i ∗ Ψ i)) = iprop(bigSep s Φ ∗ bigSep s Ψ) := bigSep_sep _ _ _
theorem sep_ch (Φ Ψ : Ch → sProp 𝕄) :
    bigSep Finset.univ (fun i => iprop(Φ i ∗ Ψ i)) = iprop(bigSep Finset.univ Φ ∗ bigSep Finset.univ Ψ) := bigSep_sep _ _ _

theorem sep_swap (X Y : sProp 𝕄) : iprop(X ∗ Y) = iprop(Y ∗ X) :=
  BI.Entails.antisymm (show iprop(X ∗ Y) ⊢ iprop(Y ∗ X) from sep_comm.1) (show iprop(Y ∗ X) ⊢ iprop(X ∗ Y) from sep_comm.1)
theorem sep_left (X Y Z : sProp 𝕄) : iprop(X ∗ Y ∗ Z) = iprop((X ∗ Y) ∗ Z) :=
  BI.Entails.antisymm (show iprop(X ∗ Y ∗ Z) ⊢ iprop((X ∗ Y) ∗ Z) from sep_assoc.2) (show iprop((X ∗ Y) ∗ Z) ⊢ iprop(X ∗ Y ∗ Z) from sep_assoc.1)

theorem Ico_append {a b c : ℕ} (h1 : a ≤ b) (h2 : b ≤ c) (Φ : ℕ → sProp 𝕄) :
    bigSep (Finset.Ico a c) Φ = iprop(bigSep (Finset.Ico a b) Φ ∗ bigSep (Finset.Ico b c) Φ) := by
  rw [← Finset.Ico_union_Ico_eq_Ico h1 h2, bigSep_union (Finset.Ico_disjoint_Ico_consecutive a b c)]; rfl

/-- Eight consecutive positions, by channel. -/
theorem eight (n : ℕ) (Φ : ℕ → sProp 𝕄) :
    bigSep (Finset.Ico (8 * n) (8 * n + 8)) Φ = bigSep Finset.univ fun k : Ch => Φ (8 * n + k.ix) := by
  have hu : Finset.Ico (8 * n) (8 * n + 8) = (Finset.univ : Finset Ch).image fun k => 8 * n + k.ix := by
    ext q
    rw [Finset.mem_Ico, Finset.mem_image]
    constructor
    · intro h
      exact ⟨Ch.at' (q - 8 * n), Finset.mem_univ _, by rw [ix_at _ (by omega)]; omega⟩
    · rintro ⟨k, -, rfl⟩
      have := ix_lt k
      omega
  rw [hu]
  exact Finset.fold_image fun k _ k' _ h => by
    rw [← at_ix k, ← at_ix k', show k.ix = k'.ix by omega]

/-- The positions of all hops, by channel and hop. -/
theorem grid (Φ : Ch → ℕ → sProp 𝕄) : ∀ n : ℕ,
    bigSep (Finset.Ico 0 (8 * n)) (fun q => Φ (Ch.at' (q % 8)) (q / 8)) = bigSep Finset.univ fun k : Ch => bigSep (Finset.range n) (Φ k)
  | 0 => by
    rw [Finset.Ico_self, bigSep_empty]
    simp only [Finset.range_zero, bigSep_empty]
    exact (bigSep_emp_const _).symm
  | n + 1 => by
    have h : ∀ k : Ch, bigSep (Finset.range (n + 1)) (Φ k) = iprop(Φ k n ∗ bigSep (Finset.range n) (Φ k)) := fun k => range_succ_sep n (Φ k)
    rw [show 8 * (n + 1) = 8 * n + 8 by omega, Ico_append (Nat.zero_le _) (Nat.le_add_right _ _), grid Φ n, eight]
    simp only [h]
    rw [sep_ch]
    have h2 : ∀ k : Ch, Φ (Ch.at' ((8 * n + k.ix) % 8)) ((8 * n + k.ix) / 8) = Φ k n := fun k => by
      have := ix_lt k
      rw [show (8 * n + k.ix) % 8 = k.ix by omega, show (8 * n + k.ix) / 8 = n by omega, at_ix]
    simp only [h2]
    exact sep_swap _ _

/-- All cells of a device, by kind. -/
theorem ck_split (Φ : CK → sProp 𝕄) :
    bigSep Finset.univ Φ = iprop((Φ kExit ∗ Φ kBar) ∗ (((bigSep Finset.univ fun k : Ch => Φ (kS k)) ∗ (bigSep Finset.univ fun k : Ch => Φ (kR k))
      ∗ (bigSep Finset.univ fun k : Ch => Φ (kC k))) ∗ ((bigSep (Finset.Ico 0 15) fun i => Φ (kAs (Fin.ofNat 15 i)))
      ∗ bigSep Finset.univ fun s : Dev nD => Φ (kAr s)))) := by
  have h1 : ∀ Ψ : Bool → sProp 𝕄, bigSep Finset.univ Ψ = iprop(Ψ true ∗ Ψ false) := fun Ψ =>
    bigSep_univ_eq_bigSepL [true, false] (by decide) (by decide) Ψ
  have h2 : ∀ Ψ : KK → sProp 𝕄, bigSep Finset.univ Ψ = iprop(Ψ .s ∗ Ψ .r ∗ Ψ .c) := fun Ψ =>
    bigSep_univ_eq_bigSepL [KK.s, KK.r, KK.c] (by decide) (by decide) Ψ
  rw [bigSep_univ_sum, bigSep_univ_sum, bigSep_univ_sum, bigSep_univ_prod, h1, h2, fin15]
  rfl

/-! ## The rights -/

/-- The devices and cells, each cell with the device that makes its payments. -/
def redeal : Dev nD × CK ≃ Dev nD × CK where
  toFun
    | (c, .inl b) => (leftOf c, .inl b)
    | (c, kS k) => (c, kS k)
    | (c, kR k) => (tgt k c, kR k)
    | (c, kC k) => (peer k c, kC k)
    | (c, kAs o) => (c, kAs o)
    | (c, kAr s) => (s, kAr c)
  invFun
    | (c, .inl b) => (rightOf c, .inl b)
    | (c, kS k) => (c, kS k)
    | (c, kR k) => (peer k c, kR k)
    | (c, kC k) => (tgt k c, kC k)
    | (c, kAs o) => (c, kAs o)
    | (c, kAr s) => (s, kAr c)
  left_inv := by
    rintro ⟨c, b | ⟨_ | _ | _, k⟩ | o | s⟩
    · exact Prod.ext (right_left c) rfl
    · rfl
    · exact Prod.ext (peer_tgt k c) rfl
    · exact Prod.ext (tgt_peer k c) rfl
    · rfl
    · rfl
  right_inv := by
    rintro ⟨c, b | ⟨_ | _ | _, k⟩ | o | s⟩
    · exact Prod.ext (left_right c) rfl
    · rfl
    · exact Prod.ext (tgt_peer k c) rfl
    · exact Prod.ext (peer_tgt k c) rfl
    · rfl
    · rfl

def ringE : Dev nD ≃ Dev nD := ⟨rightOf, leftOf, left_right, right_left⟩

/-- The rights to a cell's payments of one side. -/
def rts (d : Bool) (p : Dev nD × CK) : sProp 𝕄 := bigSep (Finset.Ico 0 15) fun r => dutyTok ER (cell p.1 p.2) r d

/-- What device `c` is dealt of them. -/
def paid (c : Dev nD) : sProp 𝕄 :=
  iprop((bigSep Finset.univ fun k : CK => rts false (redeal (c, k))) ∗ bigSep Finset.univ fun k : CK => rts true (rightOf c, k))

theorem redealt : (bigSep Finset.univ fun c : Dev nD => iprop((bigSep Finset.univ fun k : CK => rts true (c, k))
      ∗ bigSep Finset.univ fun k : CK => rts (F := F) false (c, k)))
    ⊢ bigSep Finset.univ fun c : Dev nD => paid (F := F) c := by
  have h1 : (bigSep Finset.univ fun c : Dev nD => bigSep Finset.univ fun k : CK => rts (F := F) false (c, k))
      = bigSep Finset.univ fun c : Dev nD => bigSep Finset.univ fun k : CK => rts (F := F) false (redeal (c, k)) := by
    rw [← bigSep_univ_prod (fun p : Dev nD × CK => rts (F := F) false p), bigSep_univ_equiv redeal,
      bigSep_univ_prod]
  have h2 : (bigSep Finset.univ fun c : Dev nD => bigSep Finset.univ fun k : CK => rts (F := F) true (c, k))
      = bigSep Finset.univ fun c : Dev nD => bigSep Finset.univ fun k : CK => rts (F := F) true (rightOf c, k) :=
    bigSep_univ_equiv ringE _
  have h3 : (bigSep Finset.univ fun c : Dev nD => iprop((bigSep Finset.univ fun k : CK => rts true (c, k))
      ∗ bigSep Finset.univ fun k : CK => rts (F := F) false (c, k))) = iprop((bigSep Finset.univ fun c : Dev nD => bigSep Finset.univ fun k : CK => rts true (c, k))
      ∗ bigSep Finset.univ fun c : Dev nD => bigSep Finset.univ fun k : CK => rts (F := F) false (c, k)) := bigSep_sep _ _ _
  have h4 : (bigSep Finset.univ fun c : Dev nD => paid (F := F) c) = iprop((bigSep Finset.univ fun c : Dev nD => bigSep Finset.univ fun k : CK => rts false (redeal (c, k)))
      ∗ bigSep Finset.univ fun c : Dev nD => bigSep Finset.univ fun k : CK => rts (F := F) true (rightOf c, k)) := bigSep_sep _ _ _
  rw [h3, h4, h1, h2]
  exact sep_comm.1

/-- The rights a channel's hops use. -/
def chToks (c : Dev nD) (k : Ch) : sProp 𝕄 :=
  iprop(rts false (c, kS k) ∗ rts false (tgt k c, kR k) ∗ rts false (peer k c, kC k))

theorem rts_first (d : Bool) (c : Dev nD) (k : CK) : rts (F := F) d (c, k) ⊢ dutyTok ER (cell c k) 0 d :=
  show _ ⊢ _ from bigSep_elim (Φ := fun r => dutyTok ER (cell c k) r d) (Finset.mem_Ico.mpr ⟨Nat.le_refl 0, by omega⟩)

theorem paid_split (c : Dev nD) :
    paid (F := F) c ⊢ iprop((dutyTok ER (cell (leftOf c) kBar) 0 false ∗ dutyTok ER (cell (rightOf c) kBar) 0 true)
      ∗ (dutyTok ER (cell (leftOf c) kExit) 0 false ∗ dutyTok ER (cell (rightOf c) kExit) 0 true)
      ∗ (bigSep Finset.univ fun k : Ch => chToks c k) ∗ bigSep (Finset.Ico 0 15) (aTok c)) := by
  unfold paid
  rw [ck_split (fun k => rts false (redeal (c, k))), ck_split (fun k => rts true (rightOf c, k)),
    devs_fw c (fun s => rts false (redeal (c, kAr s)))]
  have h1 : iprop((bigSep Finset.univ fun k : Ch => rts false (redeal (c, kS k))) ∗ (bigSep Finset.univ fun k : Ch => rts false (redeal (c, kR k)))
      ∗ (bigSep Finset.univ fun k : Ch => rts (F := F) false (redeal (c, kC k)))) ⊢ bigSep Finset.univ fun k : Ch => chToks c k :=
    Entails.of_eq (by unfold chToks; rw [sep_ch, sep_ch]; rfl)
  have h2 : iprop((bigSep (Finset.Ico 0 15) fun i => rts false (redeal (c, kAs (Fin.ofNat 15 i))))
      ∗ bigSep (Finset.Ico 0 15) fun i => rts (F := F) false (redeal (c, kAr (fw c (i + 1))))) ⊢ bigSep (Finset.Ico 0 15) (aTok c) := by
    rw [← sep_of]
    refine bigSep_mono fun i _ => ?_
    show iprop(rts (F := F) false (c, kAs (Fin.ofNat 15 i)) ∗ rts (F := F) false (fw c (i + 1), kAr c)) ⊢ aTok c i
    unfold aTok
    exact BI.sep_mono (rts_first _ _ _) (rts_first _ _ _)
  iintro ⟨⟨⟨HE, HB⟩, HC, HA, -, HR⟩, ⟨HE', HB'⟩, -⟩
  isplitl [HB HB']
  · isplitl [HB]
    · iapply (show rts (F := F) false (redeal (c, kBar)) ⊢ dutyTok ER (cell (leftOf c) kBar) 0 false from rts_first false (leftOf c) kBar) $$ HB
    iapply (rts_first true (rightOf c) kBar) $$ HB'
  isplitl [HE HE']
  · isplitl [HE]
    · iapply (show rts (F := F) false (redeal (c, kExit)) ⊢ dutyTok ER (cell (leftOf c) kExit) 0 false from rts_first false (leftOf c) kExit) $$ HE
    iapply (rts_first true (rightOf c) kExit) $$ HE'
  isplitl [HC]
  · iapply h1; iexact HC
  iapply h2; isplitl [HA] <;> iassumption

/-! ## The payments awaited -/

/-- What the others' hop `h` of channel `k` pays device `c`. -/
def cr (c : Dev nD) (k : Ch) : ℕ → sProp 𝕄
  | 0 => cred (tallyAt (cell c (kR k)) 0 NB)
  | h + 1 => iprop(cred (tallyAt (cell c (kC k)) h 1) ∗ cred (tallyAt (cell c (kR k)) (h + 1) NB))

/-- A channel's hops, from the rights and the payments: all but the last payment, which the last step awaits. -/
theorem its (c : Dev nD) (k : Ch) : ∀ n : ℕ,
    iprop((bigSep (Finset.range (n + 1)) fun r => dutyTok ER (cell c (kS k)) r false)
        ∗ (bigSep (Finset.range (n + 1)) fun r => dutyTok ER (cell (tgt k c) (kR k)) r false)
        ∗ (bigSep (Finset.range (n + 1)) fun r => dutyTok ER (cell (peer k c) (kC k)) r false)
        ∗ bigSep (Finset.range (n + 1)) (cr (F := F) c k))
      ⊢ iprop((bigSep (Finset.range (n + 1)) (it c k)) ∗ cred (tallyAt (cell c (kR k)) n NB) ∗ dutyTok ER (cell (peer k c) (kC k)) n false)
  | 0 => by
    simp only [range_succ_sep]
    dsimp only [it, cr]
    simp only [Finset.range_zero, bigSep_empty]
    iintro ⟨⟨H1, -⟩, ⟨H2, -⟩, ⟨H3, -⟩, H4, -⟩
    isplitl [H1 H2]
    · isplitl [H1 H2]
      · isplitl [H1] <;> iassumption
      iempintro
    isplitl [H4] <;> iassumption
  | n + 1 => by
    rw [range_succ_sep (n + 1) (fun r => dutyTok ER (cell c (kS k)) r false),
      range_succ_sep (n + 1) (fun r => dutyTok ER (cell (tgt k c) (kR k)) r false),
      range_succ_sep (n + 1) (fun r => dutyTok ER (cell (peer k c) (kC k)) r false),
      range_succ_sep (n + 1) (cr (F := F) c k), range_succ_sep (n + 1) (it (F := F) c k)]
    dsimp only [it, cr]
    iintro ⟨⟨H1, K1⟩, ⟨H2, K2⟩, ⟨H3, K3⟩, ⟨H4, H5⟩, K4⟩
    ihave K := (its c k n) $$ [K1 K2 K3 K4]
    · isplitl [K1]; · iexact K1
      isplitl [K2]; · iexact K2
      isplitl [K3] <;> iassumption
    icases K with ⟨K1, K2, K3⟩
    isplitr [H5 H3]
    · isplitr [K1]
      · isplitl [K2]; · iexact K2
        isplitl [H4]; · iexact H4
        isplitl [H1]; · iexact H1
        isplitl [H2] <;> iassumption
      iexact K1
    isplitl [H5] <;> iassumption

/-- The hops at positions `q` on. -/
def itq (c : Dev nD) (q : ℕ) : sProp 𝕄 := it c (Ch.at' (q % 8)) (q / 8)
def crq (c : Dev nD) (q : ℕ) : sProp 𝕄 := cr c (Ch.at' (q % 8)) (q / 8)

theorem stock_of (c : Dev nD) (R : sProp 𝕄) : ∀ n q, iprop(bigSep (Finset.Ico q (q + n)) (itq c) ∗ R) ⊢ stock c R n q
  | 0, q => by
    rw [Nat.add_zero, Finset.Ico_self, bigSep_empty]
    dsimp only [stock]
    iintro ⟨-, H⟩; iexact H
  | n + 1, q => by
    have h : bigSep (Finset.Ico q (q + (n + 1))) (itq (F := F) c) = iprop(itq c q ∗ bigSep (Finset.Ico (q + 1) (q + 1 + n)) (itq c)) := by
      rw [bigSep_Ico_succ_bot (by omega), show q + (n + 1) = q + 1 + n by omega]
    rw [h]
    dsimp only [stock]
    iintro ⟨⟨H1, H2⟩, H⟩
    isplitl [H1]; · unfold itq; iexact H1
    iapply (stock_of c R n (q + 1))
    isplitl [H2] <;> iassumption

theorem finStock_of (c : Dev nD) (R : sProp 𝕄) : ∀ n i,
    iprop((bigSep (Finset.Ico i (i + n)) fun i => cred (tallyAt (cell c (kR (Ch.at' i))) 14 NB)) ∗ R) ⊢ finStock c R n i
  | 0, q => by
    rw [Nat.add_zero, Finset.Ico_self, bigSep_empty]
    dsimp only [finStock]
    iintro ⟨-, H⟩; iexact H
  | n + 1, q => by
    have h : (bigSep (Finset.Ico q (q + (n + 1))) fun i => cred (tallyAt (cell c (kR (Ch.at' i))) 14 NB) : sProp 𝕄)
        = iprop(cred (tallyAt (cell c (kR (Ch.at' q))) 14 NB) ∗ bigSep (Finset.Ico (q + 1) (q + 1 + n)) fun i => cred (tallyAt (cell c (kR (Ch.at' i))) 14 NB)) := by
      rw [bigSep_Ico_succ_bot (by omega), show q + (n + 1) = q + 1 + n by omega]
    rw [h]
    dsimp only [finStock]
    iintro ⟨⟨H1, H2⟩, H⟩
    isplitl [H1]; · iexact H1
    iapply (finStock_of c R n (q + 1))
    isplitl [H2] <;> iassumption

/-- The hops of all channels and the last steps' payments. -/
theorem deal_hops (c : Dev nD) :
    iprop((bigSep Finset.univ fun k : Ch => chToks c k) ∗ bigSep (Finset.Ico 0 8) (crq (F := F) c) ∗ bigSep (Finset.Ico 8 120) (crq c))
      ⊢ iprop(stock c (stock c (finStock c iprop(emp) 8 0) 112 8) 8 0) := by
  have h1 : iprop(bigSep (Finset.Ico 0 8) (crq (F := F) c) ∗ bigSep (Finset.Ico 8 120) (crq c))
      ⊢ bigSep Finset.univ fun k : Ch => bigSep (Finset.range 15) (cr c k) :=
    Entails.of_eq ((Ico_append (by omega) (by omega) (crq c)).symm.trans (grid (cr c) 15))
  have h2 : iprop((bigSep Finset.univ fun k : Ch => chToks c k) ∗ bigSep Finset.univ fun k : Ch => bigSep (Finset.range 15) (cr c k))
      ⊢ iprop((bigSep Finset.univ fun k : Ch => bigSep (Finset.range 15) (it (F := F) c k))
        ∗ bigSep Finset.univ fun k : Ch => cred (tallyAt (cell c (kR k)) 14 NB)) := by
    rw [← sep_ch, ← sep_ch]
    refine bigSep_mono fun k _ => ?_
    have h := its (F := F) c k 14
    show iprop(chToks (F := F) c k ∗ bigSep (Finset.range 15) (cr c k)) ⊢ iprop(bigSep (Finset.range 15) (it (F := F) c k) ∗ cred (tallyAt (cell c (kR k)) 14 NB))
    unfold chToks rts
    rw [← Finset.range_eq_Ico]
    iintro ⟨⟨H1, H2, H3⟩, H4⟩
    ihave H := h $$ [H1 H2 H3 H4]
    · isplitl [H1]; · iexact H1
      isplitl [H2]; · iexact H2
      isplitl [H3] <;> iassumption
    icases H with ⟨H1, H2, -⟩
    isplitl [H1] <;> iassumption
  have h3 : (bigSep Finset.univ fun k : Ch => bigSep (Finset.range 15) (it (F := F) c k))
      ⊢ iprop(bigSep (Finset.Ico 0 8) (itq c) ∗ bigSep (Finset.Ico 8 120) (itq c)) :=
    Entails.of_eq ((grid (it c) 15).symm.trans (Ico_append (a := 0) (b := 8) (c := 120) (by omega) (by omega) (itq c)))
  have h4 : (bigSep Finset.univ fun k : Ch => cred (tallyAt (cell c (kR k)) 14 NB) : sProp 𝕄)
      ⊢ bigSep (Finset.Ico 0 (0 + 8)) fun i => cred (tallyAt (cell c (kR (Ch.at' i))) 14 NB) :=
    Entails.of_eq (((eight 0 fun i => (cred (tallyAt (cell c (kR (Ch.at' i))) 14 NB) : sProp 𝕄)).trans (bigSep_congr fun k _ => by
      rw [show 8 * 0 + k.ix = k.ix by omega, at_ix])).symm)
  iintro ⟨Ht, Hc⟩
  ihave Hc := h1 $$ Hc
  ihave H := h2 $$ [Ht Hc]
  · isplitl [Ht] <;> iassumption
  icases H with ⟨Hi, Hf⟩
  ihave Hi := h3 $$ Hi
  icases Hi with ⟨H1, H2⟩
  ihave Hf := h4 $$ Hf
  iapply (stock_of c (stock c (finStock c iprop(emp) 8 0) 112 8) 8 0)
  isplitl [H1]; · iexact H1
  iapply (stock_of c (finStock c iprop(emp) 8 0) 112 8)
  isplitl [H2]; · iexact H2
  iapply (finStock_of c iprop(emp) 8 0)
  isplitl [Hf]; · iexact Hf
  iempintro

/-! ## What every device owes, and what it gets for it -/

/-- What a device owes at the start. -/
def O₀ (c : Dev nD) : CellTallies nD τ sig ℕ :=
  tallyAt (cell (leftOf c) kBar) 0 1 + (tallyAt (cell (rightOf c) kBar) 0 1 + owed c (owed c (oA c (exitOwed c) 15 0) 112 8) 8 0)

/-- Every device owing one cell of another, each of them one device, every device is paid by one. -/
theorem launch_perm (f g : Dev nD → Dev nD) (h1 : ∀ c, g (f c) = c) (h2 : ∀ c, f (g c) = c) (k : Dev nD → CK) (ι n : ℕ) (c : Dev nD) :
    (Pipeline.launchCred (fun d => tallyAt (cell (f d) (k d)) ι n) c : sProp 𝕄) = cred (tallyAt (cell c (k (g c))) ι n) := by
  refine Pipeline.launchCred_of_sum (fun d => tallyAt (cell (f d) (k d)) ι n) (fun c => tallyAt (cell c (k (g c))) ι n) ?_ ?_ c
  · rw [← Equiv.sum_comp ⟨f, g, h1, h2⟩ fun e => (tallyAt (cell e (k (g e))) ι n : CellTallies nD τ sig ℕ)]
    exact Finset.sum_congr rfl fun d _ => by
      show _ = tallyAt (cell (f d) (k (g (f d)))) ι n
      rw [h1]
  · intro d x h
    by_contra hne
    refine h (Finsupp.ext fun i => ?_)
    rw [tallyAt_apply, if_neg]; · rfl
    rintro ⟨rfl, -⟩
    exact hne rfl

theorem cred_od (k : Ch) (T : Dev nD → CellTallies nD τ sig ℕ) (h : ℕ) (c : Dev nD) :
    (Pipeline.launchCred (fun d => od d k (T d) h) c : sProp 𝕄) = iprop(cr c k h ∗ Pipeline.launchCred T c) := by
  cases h with
  | zero =>
    dsimp only [od, cr]
    rw [Pipeline.launchCred_add, launch_perm (tgt k) (peer k) (peer_tgt k) (tgt_peer k) (fun _ => kR k)]
  | succ h =>
    dsimp only [od, cr]
    rw [Pipeline.launchCred_add, Pipeline.launchCred_add, launch_perm (tgt k) (peer k) (peer_tgt k) (tgt_peer k) (fun _ => kR k), launch_perm (peer k) (tgt k) (tgt_peer k) (peer_tgt k) (fun _ => kC k)]
    exact sep_left _ _ _

theorem cred_owed (T : Dev nD → CellTallies nD τ sig ℕ) (c : Dev nD) : ∀ n q,
    (Pipeline.launchCred (fun d => owed d (T d) n q) c : sProp 𝕄) ⊢ iprop(bigSep (Finset.Ico q (q + n)) (crq c) ∗ Pipeline.launchCred T c)
  | 0, q => by
    rw [Nat.add_zero, Finset.Ico_self, bigSep_empty]
    dsimp only [owed]
    iintro H
    isplitl []; · iempintro
    iexact H
  | n + 1, q => by
    have h : bigSep (Finset.Ico q (q + (n + 1))) (crq (F := F) c) = iprop(crq c q ∗ bigSep (Finset.Ico (q + 1) (q + 1 + n)) (crq c)) := by
      rw [bigSep_Ico_succ_bot (by omega), show q + (n + 1) = q + 1 + n by omega]
    rw [h]
    dsimp only [owed]
    rw [cred_od]
    iintro ⟨H1, H⟩
    ihave H := (cred_owed T c n (q + 1)) $$ H
    icases H with ⟨H2, H⟩
    isplitr [H]
    · isplitl [H1]; · unfold crq; iexact H1
      iexact H2
    iexact H

theorem cred_oA (T : Dev nD → CellTallies nD τ sig ℕ) (c : Dev nD) : ∀ n i,
    (Pipeline.launchCred (fun d => oA d (T d) n i) c : sProp 𝕄)
      ⊢ iprop((bigSep (Finset.Ico i (i + n)) fun i => cred (tallyAt (cell c (kAr (bk c (i + 1)))) 0 NA)) ∗ Pipeline.launchCred T c)
  | 0, q => by
    rw [Nat.add_zero, Finset.Ico_self, bigSep_empty]
    dsimp only [oA]
    iintro H
    isplitl []; · iempintro
    iexact H
  | n + 1, q => by
    have h : (bigSep (Finset.Ico q (q + (n + 1))) fun i => cred (tallyAt (cell c (kAr (bk c (i + 1)))) 0 NA) : sProp 𝕄)
        = iprop(cred (tallyAt (cell c (kAr (bk c (q + 1)))) 0 NA)
          ∗ bigSep (Finset.Ico (q + 1) (q + 1 + n)) fun i => cred (tallyAt (cell c (kAr (bk c (i + 1)))) 0 NA)) := by
      rw [bigSep_Ico_succ_bot (by omega), show q + (n + 1) = q + 1 + n by omega]
    have h5 := launch_perm (F := F) (fun c => fw c (q + 1)) (fun c => bk c (q + 1)) (fun c => bk_fw c _) (fun c => fw_bk c _) (fun d => kAr d) 0 NA c
    rw [h]
    dsimp only [oA]
    rw [Pipeline.launchCred_add]
    iintro ⟨H1, H⟩
    ihave H := (cred_oA T c n (q + 1)) $$ H
    icases H with ⟨H2, H⟩
    isplitr [H]
    · isplitl [H1]; · iapply (Entails.of_eq h5); iexact H1
      iexact H2
    iexact H

theorem cred_two (c : Dev nD) (b : Bool) :
    iprop(cred (tallyAt (cell c (.inl b)) 0 1) ∗ cred (tallyAt (cell c (.inl b)) 0 1)) ⊢ (cred (tallyAt (cell c (.inl b)) 0 2) : sProp 𝕄) := by
  rw [show (tallyAt (cell c (.inl b)) 0 2 : CellTallies nD τ sig ℕ) = tallyAt (cell c (.inl b)) 0 1 + tallyAt (cell c (.inl b)) 0 1 from
    (tallyAt_add (cell c (.inl b)) 0 1 1).symm]
  exact (cred_add _ _).2

theorem creds (c : Dev nD) :
    (Pipeline.launchCred O₀ c : sProp 𝕄) ⊢ iprop(cred (tallyAt (cell c kBar) 0 2) ∗ (bigSep (Finset.Ico 0 8) (crq c) ∗ bigSep (Finset.Ico 8 120) (crq c))
      ∗ (bigSep (Finset.Ico 0 15) fun i => cred (tallyAt (cell c (kAr (bk c (i + 1)))) 0 NA)) ∗ cred (tallyAt (cell c kExit) 0 2)) := by
  unfold O₀
  rw [Pipeline.launchCred_add, Pipeline.launchCred_add, launch_perm leftOf rightOf right_left left_right (fun _ => kBar), launch_perm rightOf leftOf left_right right_left (fun _ => kBar)]
  have he : (Pipeline.launchCred exitOwed c : sProp 𝕄) ⊢ iprop(cred (tallyAt (cell c kExit) 0 1) ∗ cred (tallyAt (cell c kExit) 0 1)) := by
    unfold exitOwed
    rw [Pipeline.launchCred_add, Pipeline.launchCred_add, launch_perm leftOf rightOf right_left left_right (fun _ => kExit), launch_perm rightOf leftOf left_right right_left (fun _ => kExit)]
    iintro ⟨H1, H2, -⟩
    isplitl [H1] <;> iassumption
  iintro ⟨H1, H2, H⟩
  ihave H := (cred_owed (fun d => owed d (oA d (exitOwed d) 15 0) 112 8) c 8 0) $$ H
  icases H with ⟨H3, H⟩
  ihave H := (cred_owed (fun d => oA d (exitOwed d) 15 0) c 112 8) $$ H
  icases H with ⟨H4, H⟩
  ihave H := (cred_oA exitOwed c 15 0) $$ H
  icases H with ⟨H5, H⟩
  ihave H := he $$ H
  isplitl [H1 H2]
  · iapply (cred_two c false); isplitl [H1] <;> iassumption
  isplitl [H3 H4]
  · isplitl [H3] <;> iassumption
  isplitl [H5]; · iexact H5
  iapply (cred_two c true); iexact H

end Cert.KernelIdeal.Hand
-- ==== Proof.KernelIdeal.Body.lean ====
/- The whole body of a device: the barrier, the hops of all channels, the last steps, the table, the exit, and its
   semaphores at zero again. -/
module

public import proofs.«01_k».proof.Proof.KernelIdeal.Deal

@[expose] public section

set_option maxRecDepth 4000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-! ## The barrier's handover -/

theorem filter_left (e : Dev nD) (d : Bool) (Φ : Ch → sProp 𝕄) :
    bigSep Finset.univ Φ = iprop((bigSep (Finset.univ.filter fun k : Ch => k.left = d) Φ) ∗ bigSep (Finset.univ.filter fun k : Ch => k.left = !d) Φ) := by
  rw [bigSep_filter_split Finset.univ (fun k : Ch => k.left = d)]
  have h : (Finset.univ.filter fun k : Ch => ¬ k.left = d) = Finset.univ.filter fun k : Ch => k.left = !d := by
    cases d <;> decide
  rw [h]; rfl

theorem tgt_left (k : Ch) (c : Dev nD) (h : k.left = false) : tgt k (leftOf c) = c := by
  unfold tgt; rw [h]; exact right_left c
theorem tgt_right (k : Ch) (c : Dev nD) (h : k.left = true) : tgt k (rightOf c) = c := by
  unfold tgt; rw [h]; exact left_right c

section Run

variable (xs : XS F) (ws : WS F) (K : Dev nD × CK → ℕ)

theorem bar_give (c : Dev nD) :
    (bigSep Finset.univ fun k : Ch => owC (F := F) c (rM k))
      ⊢ iprop(payl (A xs ws) (Pm xs ws) kBar (leftOf c) 0 false ∗ payl (A xs ws) (Pm xs ws) kBar (rightOf c) 0 true) := by
  refine Entails.of_eq ((filter_left c false _).trans ?_)
  have h1 : (bigSep (Finset.univ.filter fun k : Ch => k.left = false) fun k => owC (F := F) c (rM k)) = payl (A xs ws) (Pm xs ws) kBar (leftOf c) 0 false :=
    bigSep_congr fun k hk => by rw [tgt_left k c (Finset.mem_filter.mp hk).2]
  have h2 : (bigSep (Finset.univ.filter fun k : Ch => k.left = true) fun k => owC (F := F) c (rM k)) = payl (A xs ws) (Pm xs ws) kBar (rightOf c) 0 true :=
    bigSep_congr fun k hk => by rw [tgt_right k c (Finset.mem_filter.mp hk).2]
  rw [← h1, ← h2]; rfl

theorem bar_take (c : Dev nD) :
    (bigSep Finset.univ fun d => payl (A xs ws) (Pm xs ws) kBar c 0 d) ⊢ bigSep Finset.univ fun k : Ch => owC (F := F) (tgt k c) (rM k) := by
  have h1 : ∀ Ψ : Bool → sProp 𝕄, bigSep Finset.univ Ψ = iprop(Ψ true ∗ Ψ false) := fun Ψ =>
    bigSep_univ_eq_bigSepL [true, false] (by decide) (by decide) Ψ
  rw [h1]
  exact Entails.of_eq (filter_left c true fun k : Ch => owC (F := F) (tgt k c) (rM k)).symm

/-! ## The buffers -/

/-- A device's own buffers, whatever they hold. -/
def bufs (c : Dev nD) : sProp 𝕄 :=
  iprop((bigSep Finset.univ fun k : Ch => owC c (sM k)) ∗ (bigSep Finset.univ fun k : Ch => owC c (rM k))
    ∗ ∃ f, (((c : Thread nD τ).loc cc0_scratch19) ↦{fullShare} f))

theorem tab_open (c : Dev nD) :
    iprop(∃ f, (((c : Thread nD τ).loc cc0_scratch19) ↦{fullShare} f)) ⊢ iprop(rowE (F := F) c c ∗ bigSep Finset.univ fun k : Ch => own k c 0) := by
  have h1 : (bigSep (Finset.Ico 0 15) fun i => rowE (F := F) c (bk c (i + 1))) ⊢ bigSep Finset.univ fun k : Ch => own k c 0 := by
    have h2 : (bigSep (Finset.univ.erase Ch.r0) fun k : Ch => own (F := F) k c 0) = iprop(emp) :=
      (bigSep_congr fun k hk => if_neg (Finset.ne_of_mem_erase hk)).trans (bigSep_emp_const _)
    rw [univ_split (fun k : Ch => own (F := F) k c 0) .r0, h2]
    unfold own
    rw [if_pos rfl]
    iintro H
    isplitl [H]; · iexact H
    iempintro
  have h3 : ∀ f : (cc0_scratch19 : Ref sig .tc).ty.Contents (Elt F), (((c : Thread nD τ).loc cc0_scratch19) ↦{fullShare} f : sProp 𝕄)
      ⊢ iprop(rowE (F := F) c c ∗ bigSep (Finset.Ico 0 15) fun i => rowE (F := F) c (bk c (i + 1))) := fun f => by
    rw [whole_rows c fullShare f]
    refine BIBase.Entails.trans (bigSep_mono fun s _ => show rowP (F := F) c s fullShare f ⊢ rowE (F := F) c s from ?_)
      (Entails.of_eq (devs_bk c fun s => rowE (F := F) c s))
    unfold rowE
    iintro H; iexists f; iexact H
  iintro ⟨%f, H⟩
  ihave H := (h3 f) $$ H
  icases H with ⟨H1, H2⟩
  isplitl [H1]; · iexact H1
  iapply h1; iexact H2

theorem rows_all (c : Dev nD) :
    (bigSep Finset.univ fun k : Ch => rowsIn (F := F) k c) ⊢ bigSep (Finset.Ico 0 15) fun i => rowE (F := F) (fw c (i + 1)) c := by
  have h : rowsIn (F := F) .r0 c = bigSep (Finset.Ico 0 15) fun i => rowE (F := F) (fw c (i + 1)) c := by
    unfold rowsIn; rw [if_pos rfl, Finset.range_eq_Ico]
  rw [← h]
  exact bigSep_elim (Finset.mem_univ Ch.r0)

/-! ## The channels' state -/

theorem st_start (c : Dev nD) :
    iprop((bigSep Finset.univ fun k : Ch => atPos ER (cell c (kS k)) 0 ∅ 0) ∗ (bigSep Finset.univ fun k : Ch => atPos ER (cell c (kR k)) 0 ∅ 0)
        ∗ (bigSep Finset.univ fun k : Ch => atPos ER (cell c (kC k)) 0 ∅ 0) ∗ (bigSep Finset.univ fun k : Ch => owC c (sM k))
        ∗ (bigSep Finset.univ fun k : Ch => owC (tgt k c) (rM k)) ∗ bigSep Finset.univ fun k : Ch => own (F := F) k c 0)
      ⊢ sts c 0 := by
  rw [← sep_ch, ← sep_ch, ← sep_ch, ← sep_ch, ← sep_ch]
  refine Entails.of_eq (bigSep_congr fun k _ => ?_)
  rw [show (0 + 7 - k.ix) / 8 = 0 by omega]
  rfl

theorem sts_end (c : Dev nD) : sts (F := F) c 120 ⊢ fSt c 0 := by
  refine Entails.of_eq (bigSep_congr fun k _ => ?_)
  have := ix_lt k
  rw [show (120 + 7 - k.ix) / 8 = 15 by omega, if_neg (Nat.not_lt_zero _)]

theorem fSt_end (c : Dev nD) :
    fSt (F := F) c 8 ⊢ iprop((bigSep Finset.univ fun k : Ch => atPos ER (cell c (kS k)) 15 ∅ 0) ∗ (bigSep Finset.univ fun k : Ch => atPos ER (cell c (kR k)) 15 ∅ 0)
        ∗ (bigSep Finset.univ fun k : Ch => atPos ER (cell c (kC k)) 14 ∅ 0) ∗ (bigSep Finset.univ fun k : Ch => owC c (sM k))
        ∗ (bigSep Finset.univ fun k : Ch => owC c (rM k)) ∗ bigSep Finset.univ fun k : Ch => rowsIn (F := F) k c) := by
  rw [← sep_ch, ← sep_ch, ← sep_ch, ← sep_ch, ← sep_ch]
  refine Entails.of_eq (bigSep_congr fun k _ => ?_)
  rw [if_pos (ix_lt k)]
  rfl

/-! ## What is owed comes in order -/

theorem owed_owed (c : Dev nD) (T : CellTallies nD τ sig ℕ) (n' : ℕ) : ∀ n q, owed c (owed c T n' (q + n)) n q = owed c T (n + n') q
  | 0, q => by rw [Nat.zero_add]; rfl
  | n + 1, q => by
    rw [show n + 1 + n' = n + n' + 1 by omega]
    dsimp only [owed]
    rw [show q + (n + 1) = q + 1 + n by omega, owed_owed c T n' n (q + 1)]

theorem oA_above (c : Dev nD) : Above 250 (oA c (exitOwed c) 15 0) := above_oA c ((exit_above c).mono (by omega)) 15 0
theorem hops_above (c : Dev nD) : Above (lvl kBar 0) (owed c (owed c (oA c (exitOwed c) 15 0) 112 8) 8 0) := by
  rw [show owed c (oA c (exitOwed c) 15 0) 112 8 = owed c (oA c (exitOwed c) 15 0) 112 (0 + 8) from rfl, owed_owed]
  exact (above_owed c (oA_above c) 120 0 (by omega)).mono (by dsimp only [lvl]; omega)

/-! ## The semaphores at the end -/

/-- The round each cell ends at. -/
def eR (c : Dev nD) : CK → ℕ
  | .inl _ => 1
  | kS _ => 15
  | kR _ => 15
  | kC _ => 14
  | kAs _ => 1
  | kAr s => if s = c then 0 else 1

theorem dut_end (c : Dev nD) (k : CK) (r : ℕ) (h : eR c k ≤ r) : dut k c r = ∅ := by
  rcases k with b | ⟨_ | _ | _, k⟩ | o | s <;> dsimp only [eR] at h <;> dsimp only [dut]
  · exact if_neg (by omega)
  · exact if_neg (by omega)
  · exact if_neg (by omega)
  · exact if_neg (by omega)
  · exact if_neg (by omega)
  · refine if_neg fun ⟨h1, h2⟩ => ?_
    rw [if_neg (fun e => h2 e.symm)] at h
    omega

theorem close_all (c : Dev nD) :
    iprop(recs (A xs ws) (Pm xs ws) K ∗ bigSep Finset.univ fun k : CK => atPos ER (cell c k) (eR c k) ∅ 0)
      ⊢ |={Set.univ}=> bigSep Finset.univ fun k : CK => (semVal (cell c k) 0 : sProp 𝕄) := by
  refine BIBase.Entails.trans (bigSep_with_persistent (Ψ := fun k : CK => iprop(|={Set.univ}=> semVal (cell c k) 0)) fun k _ => ?_) (bigSep_fupd _ _)
  have h := Rounds.cell_close ER (Rd (A xs ws) (Pm xs ws)) (g := cell c k) (Set.mem_univ (K (c, k))) (fun h => h) (R := eR c k)
    (fun r hr => by rw [Rd_duties]; exact dut_end c k r hr)
  iintro ⟨#HR, H⟩
  iapply h
  isplitr; · iapply (inv_at (A xs ws) (Pm xs ws) K c k); iexact HR
  iexact H

/-- All positions at the end, together. -/
theorem pos_end (c : Dev nD) :
    iprop(atPos ER (cell c kExit) 1 ∅ 0 ∗ atPos ER (cell c kBar) 1 ∅ 0
        ∗ (bigSep Finset.univ fun k : Ch => atPos ER (cell c (kS k)) 15 ∅ 0) ∗ (bigSep Finset.univ fun k : Ch => atPos ER (cell c (kR k)) 15 ∅ 0)
        ∗ (bigSep Finset.univ fun k : Ch => atPos ER (cell c (kC k)) 14 ∅ 0)
        ∗ (bigSep (Finset.Ico 0 15) fun i => atPos ER (cell c (kAs (Fin.ofNat 15 i))) 1 ∅ 0)
        ∗ atPos ER (cell c (kAr c)) 0 ∅ 0 ∗ bigSep (Finset.Ico 0 15) fun i => atPos ER (cell c (kAr (bk c (i + 1)))) 1 ∅ 0)
      ⊢ (bigSep Finset.univ fun k : CK => (atPos ER (cell c k) (eR c k) ∅ 0 : sProp 𝕄)) := by
  have h1 : (bigSep (Finset.Ico 0 15) fun i => (atPos ER (cell c (kAr (bk c (i + 1)))) 1 ∅ 0 : sProp 𝕄))
      ⊢ bigSep (Finset.Ico 0 15) fun i => atPos ER (cell c (kAr (bk c (i + 1)))) (eR c (kAr (bk c (i + 1)))) ∅ 0 :=
    Entails.of_eq (bigSep_congr fun i hi => by
      dsimp only [eR]; rw [if_neg (bk_ne c i (Finset.mem_Ico.mp hi).2)])
  have h2 : (atPos ER (cell c (kAr c)) 0 ∅ 0 : sProp 𝕄) ⊢ atPos ER (cell c (kAr c)) (eR c (kAr c)) ∅ 0 :=
    Entails.of_eq (by dsimp only [eR]; rw [if_pos rfl])
  rw [ck_split (fun k => (atPos ER (cell c k) (eR c k) ∅ 0 : sProp 𝕄)), devs_bk c (fun s => (atPos ER (cell c (kAr s)) (eR c (kAr s)) ∅ 0 : sProp 𝕄))]
  iintro ⟨HE, HB, HS, HR, HC, HA, H0, HL⟩
  isplitl [HE HB]
  · isplitl [HE]
    · iexact HE
    iexact HB
  isplitl [HS HR HC]
  · isplitl [HS]; · iexact HS
    isplitl [HR]; · iexact HR
    iexact HC
  isplitl [HA]; · iexact HA
  isplitl [H0]
  · iapply h2; iexact H0
  iapply h1; iexact HL

/-- All positions at the start, one by one. -/
theorem pos_start (c : Dev nD) :
    (bigSep Finset.univ fun k : CK => (atPos ER (cell c k) 0 ∅ 0 : sProp 𝕄)) ⊢
    iprop((atPos ER (cell c kExit) 0 ∅ 0 ∗ atPos ER (cell c kBar) 0 ∅ 0)
        ∗ ((bigSep Finset.univ fun k : Ch => atPos ER (cell c (kS k)) 0 ∅ 0) ∗ (bigSep Finset.univ fun k : Ch => atPos ER (cell c (kR k)) 0 ∅ 0)
        ∗ (bigSep Finset.univ fun k : Ch => atPos ER (cell c (kC k)) 0 ∅ 0))
        ∗ (bigSep (Finset.Ico 0 15) fun i => atPos ER (cell c (kAs (Fin.ofNat 15 i))) 0 ∅ 0)
        ∗ atPos ER (cell c (kAr c)) 0 ∅ 0 ∗ bigSep (Finset.Ico 0 15) fun i => atPos ER (cell c (kAr (bk c (i + 1)))) 0 ∅ 0) := by
  rw [ck_split (fun k => (atPos ER (cell c k) 0 ∅ 0 : sProp 𝕄)), devs_bk c (fun s => (atPos ER (cell c (kAr s)) 0 ∅ 0 : sProp 𝕄))]

/-! ## The body -/

/-- A device's block of the result. -/
def outAt (c : Dev nD) : (cc0_stg2_0 : Ref sig .tc).ty.Contents (Elt F) := k0_pay194 (F := F) (Tab (Pm xs ws)) (Y xs ws c)

/-- What a device is paid. -/
def credAll (c : Dev nD) : sProp 𝕄 :=
  iprop(cred (tallyAt (cell c kBar) 0 2) ∗ (bigSep (Finset.Ico 0 8) (crq c) ∗ bigSep (Finset.Ico 8 120) (crq c))
      ∗ (bigSep (Finset.Ico 0 15) fun i => cred (tallyAt (cell c (kAr (bk c (i + 1)))) 0 NA)) ∗ cred (tallyAt (cell c kExit) 0 2))

theorem body_spec (c : Dev nD) (f : (cc0_stg2_0 : Ref sig .tc).ty.Contents (Elt F)) {Q : PUnit → sProp 𝕄} :
    iprop(recs (A xs ws) (Pm xs ws) K ∗ (bigSep Finset.univ fun k : CK => atPos ER (cell c k) 0 ∅ 0) ∗ paid c ∗ credAll c
        ∗ xP xs c ∗ wP ws c ∗ outP c f ∗ bufs c ∗ ow c (O₀ c))
      ⊢ iprop(((ow c 0 ∗ xP xs c ∗ wP ws c ∗ outP c (outAt xs ws c) ∗ bufs c ∗ bigSep Finset.univ fun k : CK => semVal (cell c k) 0)
          -∗ |={Set.univ}=> Q ⟨⟩) -∗ WP c (prog xM wM oM c) Q) := by
  have hA := oA_above c
  have hH := hops_above c
  have har : iprop((bigSep (Finset.Ico 0 15) fun i => cred (tallyAt (cell c (kAr (bk c (i + 1)))) 0 NA))
      ∗ bigSep (Finset.Ico 0 15) fun i => atPos ER (cell c (kAr (bk c (i + 1)))) 0 ∅ 0) ⊢ bigSep (Finset.Ico 0 15) (arPre (F := F) c) :=
    Entails.of_eq (sep_of _ _ _).symm
  iintro ⟨#HR, Hpos, Hpaid, Hcr, Hx, Hw, Ho, Hb, HO⟩ Hk
  unfold credAll bufs O₀
  ihave Hpos := (pos_start c) $$ Hpos
  icases Hpos with ⟨⟨HpE, HpB⟩, ⟨HpS, HpR, HpC⟩, HpA, Hp0, HpL⟩
  ihave Hpaid := (paid_split c) $$ Hpaid
  icases Hpaid with ⟨⟨HtB1, HtB2⟩, ⟨HtE1, HtE2⟩, HtC, HtA⟩
  icases Hcr with ⟨HcB, HcH, HcA, HcE⟩
  icases Hb with ⟨Hs, Hr, Ht⟩
  ihave Ht := (tab_open c) $$ Ht
  icases Ht with ⟨Hown, Hrows⟩
  ihave Hr := (bar_give xs ws c) $$ Hr
  icases Hr with ⟨Hr1, Hr2⟩
  ihave Hst := (deal_hops c) $$ [HtC HcH]
  · isplitl [HtC]; · iexact HtC
    icases HcH with ⟨H1, H2⟩
    isplitl [H1] <;> iassumption
  unfold prog
  iapply (part_spec (A xs ws) (Pm xs ws) K c false bSem rfl hH) $$ [HtB1 Hr1 HtB2 Hr2 HcB HO HpB]
  · isplitr; · iexact HR
    isplitl [HtB1]; · iexact HtB1
    isplitl [Hr1]; · iexact Hr1
    isplitl [HtB2]; · iexact HtB2
    isplitl [Hr2]; · iexact Hr2
    isplitl [HcB]; · iexact HcB
    isplitl [HO]; · iexact HO
    iexact HpB
  iintro ⟨HO, HpB, Hr⟩
  ihave Hr := (bar_take xs ws c) $$ Hr
  ihave Hsts := (st_start c) $$ [HpS HpR HpC Hs Hr Hrows]
  · isplitl [HpS]; · iexact HpS
    isplitl [HpR]; · iexact HpR
    isplitl [HpC]; · iexact HpC
    isplitl [Hs]; · iexact Hs
    isplitl [Hr]; · iexact Hr
    iexact Hrows
  iapply (hops0_spec xs ws K c (stock c (finStock c iprop(emp) 8 0) 112 8) (owed c (oA c (exitOwed c) 15 0) 112 8) 8 0 (by omega)) $$ [Hx Hw Hsts Hst HO]
  · isplitr; · iexact HR
    isplitl [Hx]; · iexact Hx
    isplitl [Hw]; · iexact Hw
    isplitl [Hsts]; · iexact Hsts
    isplitl [Hst]; · iexact Hst
    iexact HO
  iintro ⟨Hx, Hw, Hsts, Hst, HO⟩
  iapply (hops_spec xs ws K c (finStock c iprop(emp) 8 0) (oA c (exitOwed c) 15 0) hA 112 8 (by omega) (by omega)) $$ [Hx Hw Hsts Hst HO]
  · isplitr; · iexact HR
    isplitl [Hx]; · iexact Hx
    isplitl [Hw]; · iexact Hw
    isplitl [Hsts]; · iexact Hsts
    isplitl [Hst]; · iexact Hst
    iexact HO
  iintro ⟨Hx, Hw, Hsts, Hst, HO⟩
  ihave Hf := (sts_end c) $$ Hsts
  iapply (fins_spec xs ws K c iprop(emp) hA 8 0 (by omega)) $$ [Hx Hw Ho Hf Hst HO]
  · isplitr; · iexact HR
    isplitl [Hx]; · iexact Hx
    isplitl [Hw]; · iexact Hw
    isplitl [Ho]
    · unfold oI outP
      iexists f
      isplitr; · ipureintro; exact fun j hj => absurd hj (Nat.not_lt_zero j)
      iexact Ho
    isplitl [Hf]; · iexact Hf
    isplitl [Hst]; · iexact Hst
    iexact HO
  iintro ⟨Hx, Hw, Ho, Hf, -, HO⟩
  unfold oI
  icases Ho with ⟨%g, %hg, Ho⟩
  obtain rfl := good_all xs ws c g hg
  ihave Hf := (fSt_end c) $$ Hf
  icases Hf with ⟨HpS, HpR, HpC, Hs, Hr, Hrows⟩
  ihave Hrows := (rows_all c) $$ Hrows
  iapply (table_spec (A xs ws) (Pm xs ws) K c (Y xs ws c)) $$ [Hown Hrows HtA HcA HpL HpA Ho HtE1 HtE2 HcE HpE HO]
  · isplitr; · iexact HR
    isplitl [Hown]; · iexact Hown
    isplitl [Hrows]; · iexact Hrows
    isplitl [HtA]; · iexact HtA
    isplitl [HcA HpL]
    · iapply har; isplitl [HcA] <;> iassumption
    isplitl [HpA]; · iexact HpA
    isplitl [Ho]; · unfold outP; iexact Ho
    isplitr [HO]
    · unfold exitPre
      isplitl [HtE1]; · iexact HtE1
      isplitl [HtE2]; · iexact HtE2
      isplitl [HcE]; · iexact HcE
      iexact HpE
    iexact HO
  iintro ⟨HO, Ht, Ho, HpE, HpL, HpA⟩
  ihave Hp := (pos_end c) $$ [HpE HpB HpS HpR HpC HpA Hp0 HpL]
  · isplitl [HpE]; · iexact HpE
    isplitl [HpB]; · iexact HpB
    isplitl [HpS]; · iexact HpS
    isplitl [HpR]; · iexact HpR
    isplitl [HpC]; · iexact HpC
    isplitl [HpA]; · iexact HpA
    isplitl [Hp0] <;> iassumption
  imod (close_all xs ws K c) $$ [Hp] with Hz
  · isplitr; · iexact HR
    iexact Hp
  iapply Hk
  isplitl [HO]; · iexact HO
  isplitl [Hx]; · iexact Hx
  isplitl [Hw]; · iexact Hw
  isplitl [Ho]; · unfold outAt; iexact Ho
  isplitr [Hz]
  · isplitl [Hs]; · iexact Hs
    isplitl [Hr]; · iexact Hr
    unfold tabP
    iexists _; iexact Ht
  iexact Hz

end Run

end Cert.KernelIdeal.Hand
-- ==== Proof.KernelIdeal.Launch.lean ====
/- The launch: the buffers, cells and payments dealt to the devices, and the run of the whole mesh. -/
module

public import proofs.«01_k».proof.Proof.KernelIdeal.Body
public import Idealize.ShloMosaic.Lib.Pipeline.CollectiveSegs

@[expose] public section

set_option maxRecDepth 4000

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig ℕ (Elt F) ℕ UU ℕ

variable (m : (ℓ : Loc nD τ sig) → Buf (Elt F) ℓ) (ρ : Dev nD → PrngReg)

/-- The machine at launch. -/
def s0 : MemSt nD τ sig (Elt F) := ⟨m, fun _ => 0, ρ⟩

/-- The one grid point. -/
abbrev pt : Fin cfg0.N := (0 : Fin 1)

theorem pt_eq (t : Fin cfg0.N) : t = pt := Fin.ext (by have := t.isLt; have h : cfg0.N = 1 := rfl; omega)

/-- What the operands' staging buffers hold. -/
def xin : XS F := fun c => (win0_0.blk (0 : Fin 1)).view.read (Elt F) (m ((c : Thread nD τ).loc main_arg0))
def win : WS F := fun c => (win0_1.blk (0 : Fin 1)).view.read (Elt F) (m ((c : Thread nD τ).loc main_arg1))

/-- The messages and maxima of the run. -/
abbrev Am := A (xin m) (win m)
abbrev Pmm := Pm (xin m) (win m)

/-! ## The state before and after -/

/-- Every cell's agreement and its start. -/
def recs0 (K : Dev nD × CK → ℕ) : sProp 𝕄 :=
  iprop((bigSep Finset.univ fun p : Dev nD × CK => cellInv ER (Rd (Am m) (Pmm m)) (K p) (cell p.1 p.2))
    ∗ bigSep Finset.univ fun p : Dev nD × CK => reached ER (cell p.1 p.2) 0)

instance recs0_persistent (K : Dev nD × CK → ℕ) : BI.Persistent (recs0 m K) := by unfold recs0; infer_instance

/-- A device's share of the agreement. -/
def G' (c : Dev nD) : sProp 𝕄 :=
  iprop(∃ K, recs0 m K ∗ (bigSep Finset.univ fun k : CK => atPos ER (cell c k) 0 ∅ 0) ∗ paid c)

def start (c : Dev nD) : sProp 𝕄 := iprop(G' m c ∗ credAll c ∗ lvs)
def Phi0 (c : Dev nD) : sProp 𝕄 := iprop(start m c ∗ bufs c)
def Phi1 (c : Dev nD) : sProp 𝕄 := iprop(bufs c ∗ bigSep Finset.univ fun k : CK => semVal (cell c k) 0)

def dats (_ : Fin 1) (c : Dev nD) : Dat τ (Elt F) ℕ ℕ UU ℕ cfg0 c where
  A w := (s0 m ρ).mem ((cfg0.win w).arr.view.loc (c : Thread nD τ))
  after w _ := match w with
    | ⟨0, _⟩ => xin m c
    | ⟨1, _⟩ => win m c
    | ⟨2, _⟩ => outAt (xin m) (win m) c
  Φ t := match t with
    | ⟨0, _⟩ => Phi0 m c
    | ⟨_ + 1, _⟩ => Phi1 c
  q _ := fullShare
  owed t := match t with
    | ⟨0, _⟩ => O₀ c
    | ⟨_ + 1, _⟩ => 0

/-! ## The body at its one point -/

theorem owns_whole (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer, held at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bPre (c : Dev nD) : sProp 𝕄 :=
  iprop(Phi0 m c ∗ (dats m ρ 0 c).owesAt 0 pt.castSucc
    ∗ (∃ d, stg c cc0_stg0_0 ((dats m ρ 0 c).before (0 : Fin 3) pt d))
    ∗ (∃ d, stg c cc0_stg1_0 ((dats m ρ 0 c).before (1 : Fin 3) pt d))
    ∗ (∃ d, stg c cc0_stg2_0 ((dats m ρ 0 c).before (2 : Fin 3) pt d)))

def bPost (c : Dev nD) : sProp 𝕄 :=
  iprop(Phi1 c ∗ (dats m ρ 0 c).owesAt 0 pt.succ ∗ stg c cc0_stg0_0 (xin m c) ∗ stg c cc0_stg1_0 (win m c)
    ∗ stg c cc0_stg2_0 (outAt (xin m) (win m) c))

theorem before_x (c : Dev nD) (d) : (dats m ρ 0 c).before (0 : Fin 3) pt d = xin m c := by
  unfold Dat.before; rw [if_pos (fetch0_0 pt)]; rfl
theorem before_w (c : Dev nD) (d) : (dats m ρ 0 c).before (1 : Fin 3) pt d = win m c := by
  unfold Dat.before; rw [if_pos (fetch0_1 pt)]; rfl

theorem body_run (c : Dev nD) : bPre m ρ c ⊢ WP c (prog xM wM oM c) fun _ => bPost m ρ c := by
  have hx : iprop(∃ d, stg c cc0_stg0_0 ((dats m ρ 0 c).before (0 : Fin 3) pt d)) ⊢ xP (xin m) c := by
    iintro ⟨%d, %f, %hf, H⟩
    rw [before_x] at hf
    subst hf
    unfold xP; iexact H
  have hw : iprop(∃ d, stg c cc0_stg1_0 ((dats m ρ 0 c).before (1 : Fin 3) pt d)) ⊢ wP (win m) c := by
    iintro ⟨%d, %f, %hf, H⟩
    rw [before_w] at hf
    subst hf
    unfold wP; iexact H
  have ho : iprop(∃ d, stg c cc0_stg2_0 ((dats m ρ 0 c).before (2 : Fin 3) pt d)) ⊢ iprop(∃ f, outP (F := F) c f) := by
    iintro ⟨%d, %f, %hf, H⟩
    iexists f; unfold outP; iexact H
  have hO : (dats m ρ 0 c).owesAt 0 pt.castSucc ⊢ ow c (O₀ c) := by
    unfold Dat.owesAt Pipeline.owesWithin ow
    iintro ⟨%W, -, H⟩
    iexists W; iexact H
  have hO' : ow c 0 ⊢ (dats m ρ 0 c).owesAt 0 pt.succ := by
    unfold Dat.owesAt Pipeline.owesWithin ow
    rw [show (dats m ρ 0 c).owed pt.succ = 0 from rfl]
    iintro ⟨%W, H⟩
    iexists W
    isplitr; · ipureintro; exact fun _ _ => Or.inl trivial
    iexact H
  unfold bPre Phi0 start G'
  iintro ⟨⟨⟨⟨%K, Hrec, Hpos, Hpaid⟩, Hcr, Hlv⟩, Hb⟩, HO, Hx, Hw, Ho⟩
  ihave Ho := ho $$ Ho
  icases Ho with ⟨%f, Ho⟩
  iapply (body_spec (xin m) (win m) K c f) $$ [Hrec Hpos Hpaid Hcr Hlv Hb HO Hx Hw Ho]
  · isplitl [Hrec Hlv]
    · unfold recs recs0
      icases Hrec with ⟨H1, H2⟩
      isplitl [H1]; · iexact H1
      isplitl [H2] <;> iassumption
    isplitl [Hpos]; · iexact Hpos
    isplitl [Hpaid]; · iexact Hpaid
    isplitl [Hcr]; · iexact Hcr
    isplitl [Hx]; · iapply hx; iexact Hx
    isplitl [Hw]; · iapply hw; iexact Hw
    isplitl [Ho]; · iexact Ho
    isplitl [Hb]; · iexact Hb
    iapply hO; iexact HO
  iintro ⟨HO, Hx, Hw, Ho, Hb, Hz⟩
  imodintro
  unfold bPost Phi1
  isplitl [Hb Hz]
  · isplitl [Hb] <;> iassumption
  isplitl [HO]; · iapply hO'; iexact HO
  isplitl [Hx]
  · iexists _; isplitr; · (ipureintro; rfl)
    unfold xP; iexact Hx
  isplitl [Hw]
  · iexists _; isplitr; · (ipureintro; rfl)
    unfold wP; iexact Hw
  iexists _; isplitr; · (ipureintro; rfl)
  unfold outP; iexact Ho

set_option maxRecDepth 1000000 in
set_option maxHeartbeats 0 in
theorem body_call : (defs₀ (F := F)) .tc cfg0.body (cfg0.bodyArgs pt (cfg0.slots pt)) = bodyAt0 (F := F) pt := by
  sl_kernel_rfl

theorem stage_x : win0_0.stage (cfg0.slots pt 0) = xM := rfl
theorem stage_w : win0_1.stage (cfg0.slots pt 1) = wM := rfl
theorem stage_o : win0_2.stage (cfg0.slots pt 2) = oM := rfl

theorem body_prog : (defs₀ (F := F)) .tc cfg0.body (cfg0.bodyArgs pt (cfg0.slots pt)) = .op .deviceId fun d0 => prog (F := F) xM wM oM d0 :=
  body_call.trans ((body_eq pt).trans (by rw [stage_x, stage_w, stage_o]))

theorem dev_wp (c : Dev nD) (p : Dev nD → P F) (R : sProp 𝕄) (Q : PUnit → sProp 𝕄) (h : R ⊢ WP c (p c) Q) : R ⊢ WP c (.op .deviceId p) Q := by
  unfold WP; rw [wp_deviceId]; exact h

theorem wp_of_eq (c : Dev nD) {p q : P F} (e : p = q) (R : sProp 𝕄) (Q : PUnit → sProp 𝕄) (h : R ⊢ WP c q Q) : R ⊢ WP c p Q := e ▸ h

theorem body_wp (c : Dev nD) (R : sProp 𝕄) (Q : PUnit → sProp 𝕄) (h : R ⊢ WP c (prog xM wM oM c) Q) :
    R ⊢ WP c ((defs₀ (F := F)) .tc cfg0.body (cfg0.bodyArgs pt (cfg0.slots pt))) Q :=
  wp_of_eq c body_prog R Q (dev_wp c (fun d0 => prog xM wM oM d0) R Q h)

theorem own_x (c : Dev nD) (X) : (owns (Ix := ℕ) (Name := ℕ) (U := UU) (Lvl := ℕ) (c : Thread nD τ) ((cfg0.win (0 : Fin 3)).stage (cfg0.slots pt (0 : Fin 3))) fullShare X : sProp 𝕄)
    = stg c cc0_stg0_0 X := owns_whole c cc0_stg0_0 X
theorem own_w (c : Dev nD) (X) : (owns (Ix := ℕ) (Name := ℕ) (U := UU) (Lvl := ℕ) (c : Thread nD τ) ((cfg0.win (1 : Fin 3)).stage (cfg0.slots pt (1 : Fin 3))) fullShare X : sProp 𝕄)
    = stg c cc0_stg1_0 X := owns_whole c cc0_stg1_0 X
theorem own_o (c : Dev nD) (X) : (owns (Ix := ℕ) (Name := ℕ) (U := UU) (Lvl := ℕ) (c : Thread nD τ) ((cfg0.win (2 : Fin 3)).stage (cfg0.slots pt (2 : Fin 3))) fullShare X : sProp 𝕄)
    = stg c cc0_stg2_0 X := owns_whole c cc0_stg2_0 X

set_option maxRecDepth 1000000 in
set_option maxHeartbeats 0 in
theorem body_at (c : Dev nD) : BodyObligation (dats (F := F) m ρ 0 c) (defs₀ (F := F)) 𝒱₀ 0 Set.univ := fun t => by
  obtain rfl := pt_eq t
  refine body_wp c _ _ ?_
  rw [bigSep_W0, bigSep_W0]
  have h := body_run m ρ c
  unfold bPre bPost at h
  simp only [← own_x, ← own_w, ← own_o] at h
  exact h

/-! ## The launch's parts -/

theorem own_facts : Pipeline.OwnSemFacts cfg0.spec osem := by decide +kernel

theorem share_at (c : Dev nD) (w : Fin cfg0.W) : (dats m ρ 0 c).share w = fullShare := by unfold Dat.share; split <;> rfl

def theCells : Finset (GSem nD τ sig) := Finset.univ.map ⟨fun p : Dev nD × CK => cell p.1 p.2, cell_inj⟩

def tokOf (p : (Dev nD × CK) × (Bool × Fin 15)) : GSem nD τ sig × ℕ × Bool := (cell p.1.1 p.1.2, p.2.2.val, p.2.1)
theorem tokOf_inj : Function.Injective tokOf := by
  rintro ⟨a, d, r⟩ ⟨a', d', r'⟩ h
  have h1 := cell_inj (congrArg (fun x : GSem nD τ sig × ℕ × Bool => x.1) h)
  have h2 : r = r' := Fin.ext (congrArg (fun x : GSem nD τ sig × ℕ × Bool => x.2.1) h)
  have h3 : d = d' := congrArg (fun x : GSem nD τ sig × ℕ × Bool => x.2.2) h
  have h1' : a = a' := h1
  rw [h1', h2, h3]
def theToks : Finset (GSem nD τ sig × ℕ × Bool) := Finset.univ.map ⟨tokOf, tokOf_inj⟩

def u0 : UU := (initOf (Pipeline.cells cfgs cellOf_inj) (Pipeline.launchToks cfgs cellOf_inj), initOf theCells theToks)

/-- A device's own tokens. -/
def toks (c : Dev nD) : sProp 𝕄 :=
  iprop((bigSep Finset.univ fun k : CK => rts true (c, k)) ∗ bigSep Finset.univ fun k : CK => rts (F := F) false (c, k))

/-- What the launch deals device `c`. -/
def G (c : Dev nD) : sProp 𝕄 :=
  iprop((bigSep Finset.univ fun k : CK => roundState ER (Rd (Am m) (Pmm m)) (cell c k) 0)
    ∗ (bigSep Finset.univ fun k : CK => atPos ER (cell c k) 0 ∅ 0) ∗ (bigSep Finset.univ fun k : CK => reached ER (cell c k) 0) ∗ toks c)

theorem deal_cells (Φ : GSem nD τ sig → sProp 𝕄) :
    bigSep theCells Φ = bigSep Finset.univ fun c : Dev nD => bigSep Finset.univ fun k : CK => Φ (cell c k) := by
  unfold theCells; rw [bigSep_map, bigSep_univ_prod]; rfl

theorem deal_toks : bigSep theToks (fun x => (dutyTok ER x.1 x.2.1 x.2.2 : sProp 𝕄)) = bigSep Finset.univ fun c : Dev nD => toks c := by
  have h1 : ∀ Ψ : Bool → sProp 𝕄, bigSep Finset.univ Ψ = iprop(Ψ true ∗ Ψ false) := fun Ψ =>
    bigSep_univ_eq_bigSepL [true, false] (by decide) (by decide) Ψ
  have h2 : ∀ (p : Dev nD × CK) (d : Bool), (bigSep Finset.univ fun r : Fin 15 => (dutyTok ER (cell p.1 p.2) r.val d : sProp 𝕄)) = rts d p := fun p d => by
    rw [fin15]; unfold rts
    exact bigSep_congr fun r hr => by rw [ofNat_val r (Finset.mem_Ico.mp hr).2]
  have h3 : ∀ p : Dev nD × CK, (bigSep Finset.univ fun q : Bool × Fin 15 => (dutyTok ER (cell p.1 p.2) q.2.val q.1 : sProp 𝕄)) = iprop(rts true p ∗ rts false p) := fun p => by
    rw [bigSep_univ_prod, h1, h2, h2]
  have h4 : bigSep theToks (fun x => (dutyTok ER x.1 x.2.1 x.2.2 : sProp 𝕄))
      = bigSep Finset.univ fun p : (Dev nD × CK) × (Bool × Fin 15) => (dutyTok ER (cell p.1.1 p.1.2) p.2.2.val p.2.1 : sProp 𝕄) := by
    unfold theToks; rw [bigSep_map]; rfl
  rw [h4, bigSep_univ_prod, bigSep_congr fun p _ => h3 p, bigSep_univ_prod]
  refine bigSep_congr fun c _ => ?_
  unfold toks
  exact bigSep_sep' _ _ _

theorem fund : BI.own (ER (initOf theCells theToks)) ⊢ (|==> bigSep Finset.univ (G m) : sProp 𝕄) := by
  iintro HX
  imod (Rounds.fund ER (Rd (Am m) (Pmm m)) theCells theToks) $$ HX with ⟨Hst, Hr, Hat, Htok⟩
  imodintro
  ihave Hst' := (Entails.of_eq (deal_cells fun g => roundState ER (Rd (Am m) (Pmm m)) g 0)) $$ Hst
  ihave Hat' := (Entails.of_eq (deal_cells fun g => atPos ER g 0 ∅ 0)) $$ Hat
  ihave Hr' := (Entails.of_eq (deal_cells fun g => reached ER g 0)) $$ Hr
  ihave Htok' := (Entails.of_eq deal_toks) $$ Htok
  unfold G; simp only [bigSep_sep']
  isplitl [Hst']; · iexact Hst'
  isplitl [Hat']; · iexact Hat'
  isplitl [Hr']; · iexact Hr'
  iexact Htok'

/-- The one semaphore that outlives the kernel is the barrier's. -/
theorem unscoped_eq (c : Dev nD) : (unscopedSems0 c : sProp 𝕄) = semVal (cell c kBar) 0 := by
  unfold unscopedSems0; rw [bigSep_eq_bigSepL_of_eq [SemLoc.reg bSem] (by decide +kernel) (by decide +kernel)]; rfl

theorem sems_eq (c : Dev nD) :
    (bigSep Finset.univ fun k : CK => semVal (cell c k) 0 : sProp 𝕄)
      = iprop(unscopedSems0 c ∗ Pipeline.ownSems0 (Ix := ℕ) (Name := ℕ) (U := UU) (Lvl := ℕ) (Val := Elt F) (τ := τ) osem c) := by
  have h1 : ∀ Ψ : Bool → sProp 𝕄, bigSep Finset.univ Ψ = iprop(Ψ false ∗ Ψ true) := fun Ψ =>
    bigSep_univ_eq_bigSepL [false, true] (by decide) (by decide) Ψ
  have h2 : ∀ Ψ : Unit → sProp 𝕄, bigSep Finset.univ Ψ = Ψ () := fun Ψ =>
    bigSep_univ_eq_bigSepL [()] (by decide) (by decide) Ψ
  rw [unscoped_eq]
  have h3 : (bigSep Finset.univ fun k : CK => semVal (cell c k) 0 : sProp 𝕄)
      = iprop((semVal (cell c kBar) 0 ∗ semVal (cell c kExit) 0) ∗ bigSep Finset.univ fun x => semVal (cell c (.inr x)) 0) := by
    rw [bigSep_univ_sum, h1]; rfl
  have h4 : (Pipeline.ownSems0 (Ix := ℕ) (Name := ℕ) (U := UU) (Lvl := ℕ) (Val := Elt F) (τ := τ) osem c : sProp 𝕄)
      = iprop(semVal (cell c kExit) 0 ∗ bigSep Finset.univ fun x => semVal (cell c (.inr x)) 0) := by
    unfold Pipeline.ownSems0
    rw [bigSep_univ_sum, h2]; rfl
  rw [h3, h4]
  exact (sep_left _ _ _).symm

theorem alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd (Am m) (Pmm m)) κ (cell c k)))
          ∗ (bigSep Finset.univ fun k : CK => atPos ER (cell c k) 0 ∅ 0) ∗ (bigSep Finset.univ fun k : CK => reached ER (cell c k) 0) ∗ toks c) := by
  have h := Entails.of_eq (sems_eq (F := F) c).symm
  unfold G
  iintro ⟨Hos, Hus, Hst, Hat, Hr, Htok⟩
  ihave Hv := h $$ [Hos Hus]
  · isplitl [Hus] <;> iassumption
  imod (show iprop((bigSep Finset.univ fun k : CK => semVal (cell c k) 0) ∗ bigSep Finset.univ fun k : CK => roundState ER (Rd (Am m) (Pmm m)) (cell c k) 0)
      ⊢ (|={Set.univ}=> bigSep Finset.univ fun k => iprop(∃ κ : ℕ, cellInv ER (Rd (Am m) (Pmm m)) κ (cell c k)) : sProp 𝕄) from by
        rw [← bigSep_sep']
        exact (bigSep_mono fun k _ => (Rounds.body_intro ER (Rd (Am m) (Pmm m)) (cell c k)).trans inv_alloc).trans (bigSep_fupd _ _)) $$ [Hv Hst] with Hinv
  · isplitl [Hv] <;> iassumption
  imodintro
  isplitl [Hinv]; · iexact Hinv
  isplitl [Hat]; · iexact Hat
  isplitl [Hr] <;> iassumption

theorem share_out :
    (bigSep Finset.univ fun c : Dev nD => iprop((bigSep Finset.univ fun k => iprop(∃ κ : ℕ, cellInv ER (Rd (Am m) (Pmm m)) κ (cell c k)))
          ∗ (bigSep Finset.univ fun k : CK => atPos ER (cell c k) 0 ∅ 0) ∗ (bigSep Finset.univ fun k : CK => reached ER (cell c k) 0) ∗ toks c) : sProp 𝕄)
      ⊢ bigSep Finset.univ (G' m) := by
  have hp : iprop((bigSep Finset.univ fun c : Dev nD => bigSep Finset.univ fun k : CK => atPos ER (cell c k) 0 ∅ 0) ∗ bigSep Finset.univ paid)
      ⊢ (bigSep Finset.univ fun c : Dev nD => iprop((bigSep Finset.univ fun k : CK => atPos ER (cell c k) 0 ∅ 0) ∗ paid (F := F) c)) :=
    Entails.of_eq (bigSep_sep' _ _ _).symm
  rw [bigSep_sep', bigSep_sep', bigSep_sep', ← bigSep_univ_prod (fun p : Dev nD × CK => iprop(∃ κ : ℕ, cellInv ER (Rd (Am m) (Pmm m)) κ (cell p.1 p.2))),
    ← bigSep_univ_prod (fun p : Dev nD × CK => (reached ER (cell p.1 p.2) 0 : sProp 𝕄))]
  iintro ⟨HI, Hat, #HR, Htok⟩
  ihave HK := (BI.bigSep_exists_pi Finset.univ (fun (p : Dev nD × CK) (κ : ℕ) => (cellInv ER (Rd (Am m) (Pmm m)) κ (cell p.1 p.2) : sProp 𝕄))) $$ HI
  icases HK with ⟨%K, #HI⟩
  ihave Htk := (show (bigSep Finset.univ fun c : Dev nD => toks (F := F) c) ⊢ bigSep Finset.univ paid from redealt) $$ Htok
  iapply (bigSep_with_persistent (R := recs0 m K) (Φ := fun c : Dev nD => iprop((bigSep Finset.univ fun k : CK => atPos ER (cell c k) 0 ∅ 0) ∗ paid (F := F) c))
    fun c _ => show iprop(recs0 m K ∗ (bigSep Finset.univ fun k : CK => atPos ER (cell c k) 0 ∅ 0) ∗ paid (F := F) c) ⊢ G' m c from by
      unfold G'; iintro H; iexists K; iexact H)
  isplitr
  · unfold recs0; isplitl; · iexact HI
    iexact HR
  iapply hp
  isplitl [Hat] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => alloc m c).trans (bigSep_fupd _ _)).trans (BI.fupd_mono (share_out m))

theorem start_in (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start credAll lvs
  isplitl
  · isplitl [HG]; · iexact HG
    isplitl [Hc] <;> iassumption
  · iempintro

/-! ## The buffers -/

theorem owC_buf (c : Dev nD) (b : Ref sig .tc) :
    iprop(∃ X, owns (Ix := ℕ) (Name := ℕ) (U := UU) (Lvl := ℕ) (c : Thread nD τ) (Memref.whole b) fullShare X)
      = (iprop(∃ f : Buf (Elt F) ((c : Thread nD τ).loc b), ((c : Thread nD τ).loc b) ↦{fullShare} f) : sProp 𝕄) := by
  simp only [owns_whole]
  have h1 : iprop(∃ X, ∃ f : Buf (Elt F) (((c : Dev nD) : Thread nD τ).loc b), ⌜f = X⌝ ∗ (((c : Thread nD τ).loc b) ↦{fullShare} f))
      ⊢ (iprop(∃ f : Buf (Elt F) ((c : Thread nD τ).loc b), ((c : Thread nD τ).loc b) ↦{fullShare} f) : sProp 𝕄) := by
    iintro ⟨%X, %f, -, H⟩; iexists f; iexact H
  have h2 : (iprop(∃ f : Buf (Elt F) ((c : Thread nD τ).loc b), ((c : Thread nD τ).loc b) ↦{fullShare} f) : sProp 𝕄)
      ⊢ iprop(∃ X, ∃ f : Buf (Elt F) (((c : Dev nD) : Thread nD τ).loc b), ⌜f = X⌝ ∗ (((c : Thread nD τ).loc b) ↦{fullShare} f)) := by
    iintro ⟨%f, H⟩; iexists f; iexists f
    isplitr; · ipureintro; rfl
    iexact H
  exact BI.Entails.antisymm h1 h2

theorem chs (Φ : Ch → sProp 𝕄) : bigSep Finset.univ Φ
    = iprop(Φ .r0 ∗ Φ .r1 ∗ Φ .r2 ∗ Φ .r3 ∗ Φ .l0 ∗ Φ .l1 ∗ Φ .l2 ∗ Φ .l3) :=
  bigSep_univ_eq_bigSepL [Ch.r0, Ch.r1, Ch.r2, Ch.r3, Ch.l0, Ch.l1, Ch.l2, Ch.l3] (by decide) (by decide) Φ

theorem bufs_eq (c : Dev nD) :
    bufs (F := F) c = iprop(((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f) ∗ (∃ f : Buf (Elt F) ((c : Thread nD τ).loc cc0_scratch7), ((c : Thread nD τ).loc cc0_scratch7) ↦{fullShare} f))
      ∗ ((∃ f : Buf (Elt F) ((c : Thread nD τ).loc cc0_scratch8), ((c : Thread nD τ).loc cc0_scratch8) ↦{fullShare} f) ∗ (∃ f : Buf (Elt F) ((c : Thread nD τ).loc cc0_scratch9), ((c : Thread nD τ).loc cc0_scratch9) ↦{fullShare} f)
      ∗ (∃ f : Buf (Elt F) ((c : Thread nD τ).loc cc0_scratch10), ((c : Thread nD τ).loc cc0_scratch10) ↦{fullShare} f) ∗ (∃ f : Buf (Elt F) ((c : Thread nD τ).loc cc0_scratch11), ((c : Thread nD τ).loc cc0_scratch11) ↦{fullShare} f)
      ∗ (∃ f : Buf (Elt F) ((c : Thread nD τ).loc cc0_scratch12), ((c : Thread nD τ).loc cc0_scratch12) ↦{fullShare} f) ∗ (∃ f : Buf (Elt F) ((c : Thread nD τ).loc cc0_scratch13), ((c : Thread nD τ).loc cc0_scratch13) ↦{fullShare} f)
      ∗ (∃ f : Buf (Elt F) ((c : Thread nD τ).loc cc0_scratch14), ((c : Thread nD τ).loc cc0_scratch14) ↦{fullShare} f) ∗ (∃ f : Buf (Elt F) ((c : Thread nD τ).loc cc0_scratch15), ((c : Thread nD τ).loc cc0_scratch15) ↦{fullShare} f))
      ∗ (∃ f : Buf (Elt F) ((c : Thread nD τ).loc cc0_scratch19), ((c : Thread nD τ).loc cc0_scratch19) ↦{fullShare} f)) := by
  unfold bufs
  rw [chs, chs]
  simp only [← owC_buf c cc0_scratch0, ← owC_buf c cc0_scratch1, ← owC_buf c cc0_scratch2, ← owC_buf c cc0_scratch3, ← owC_buf c cc0_scratch4, ← owC_buf c cc0_scratch5,
    ← owC_buf c cc0_scratch6, ← owC_buf c cc0_scratch7, ← owC_buf c cc0_scratch8, ← owC_buf c cc0_scratch9, ← owC_buf c cc0_scratch10, ← owC_buf c cc0_scratch11,
    ← owC_buf c cc0_scratch12, ← owC_buf c cc0_scratch13, ← owC_buf c cc0_scratch14, ← owC_buf c cc0_scratch15]
  rfl

theorem bufs_rest (c : Dev nD) :
    (Pipeline.scopedRest (Ix := ℕ) (Name := ℕ) (U := UU) (Lvl := ℕ) (Val := Elt F) spec0 c : sProp 𝕄) ⊢ bufs c := by
  rw [scopedRest0_eq, bufs_eq]
  iintro ⟨H0, H1, H2, H3, H4, H5, H6, H7, H8, H9, H10, H11, H12, H13, H14, H15, H19⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitr [H19]
  · isplitl [H8]; · iexact H8
    isplitl [H9]; · iexact H9
    isplitl [H10]; · iexact H10
    isplitl [H11]; · iexact H11
    isplitl [H12]; · iexact H12
    isplitl [H13]; · iexact H13
    isplitl [H14] <;> iassumption
  iexact H19

theorem rest_bufs (c : Dev nD) :
    bufs c ⊢ (Pipeline.scopedRest (Ix := ℕ) (Name := ℕ) (U := UU) (Lvl := ℕ) (Val := Elt F) spec0 c : sProp 𝕄) := by
  rw [scopedRest0_eq, bufs_eq]
  iintro ⟨⟨H0, H1, H2, H3, H4, H5, H6, H7⟩, ⟨H8, H9, H10, H11, H12, H13, H14, H15⟩, H19⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15] <;> iassumption

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  have h : (Pipeline.scopedRest cfg0.spec c : sProp 𝕄) ⊢ bufs c := bufs_rest c
  rw [show (dats m ρ 0 c).Φ 0 = Phi0 m c from rfl]
  unfold Phi0
  iintro ⟨Hs, -, Hr⟩
  isplitl [Hs]; · iexact Hs
  iapply h; iexact Hr

theorem phi_out (c : Dev nD) :
    (dats m ρ 0 c).Φ (Fin.last cfg0.N) ⊢ iprop(unscopedSems0 c ∗ Pipeline.ownSems0 osem c ∗ Pipeline.scopedRest cfg0.spec c) := by
  have h : bufs c ⊢ (Pipeline.scopedRest cfg0.spec c : sProp 𝕄) := rest_bufs c
  rw [show (dats m ρ 0 c).Φ (Fin.last cfg0.N) = Phi1 c from rfl]
  unfold Phi1
  rw [sems_eq]
  iintro ⟨Hb, Hu, Ho⟩
  isplitl [Hu]; · iexact Hu
  isplitl [Ho]; · iexact Ho
  iapply h; iexact Hb

/-! ## The staging copies' waits -/

theorem O₀_above (c : Dev nD) : Above 0 (O₀ c) :=
  ((Above.tally (leftOf c) kBar 0 1 0 (by omega) (by decide)).add
    ((Above.tally (rightOf c) kBar 0 1 0 (by omega) (by decide)).add ((hops_above c).mono (Nat.zero_le _))))

theorem waits (c : Dev nD) : (levAts L lv : sProp 𝕄) ⊢ Pipeline.cellsWaits cfgs (dats m ρ) 0 0 c :=
  Pipeline.cellsWaits_intro cfgs (dats m ρ) 0 0 c fun w s t =>
    mayWait_of c _ 0 0 (by omega)
      (by
        have h : ∀ k, csem k ≠ SemLoc.dma (((cfgs 0).win w).sem s) := by
          revert w s; decide +kernel
        show (kindOf _).elim 0 _ ≤ 0
        rw [kindOf_none h]; exact Nat.le_refl 0)
      (by
        rcases t with ⟨_ | _, ht⟩
        · exact O₀_above c
        · exact Above.zero _)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 1000000 in
set_option maxHeartbeats 0 in
/-- The kernel ends on every device, with the arrays at the values computed and every semaphore at zero. -/
theorem run : θ_run defs (onTc (τ := τ) (main (F := F))) (s0 m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ own_facts (Pipeline.PreFacts.none _) EP defs₀ 𝒱₀ m ρ main
    (hmain := fun _ => rfl)
    (hbody := body_at m ρ) (hne := fun w => by fin_cases w <;> exact Nat.succ_pos _) (harr := arr_whole0) (hstage := stage_whole0) (hshare := share_at m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u0)
    (hu₀ := by
      unfold u0
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_in m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_x (c : Dev nD) : finalA m ρ c (0 : Fin 3) = m ((c : Thread nD τ).loc main_arg0) :=
  (dats (F := F) m ρ 0 c).arrAt_in (0 : Fin 3) rfl _
theorem final_w (c : Dev nD) : finalA m ρ c (1 : Fin 3) = m ((c : Thread nD τ).loc main_arg1) :=
  (dats (F := F) m ρ 0 c).arrAt_in (1 : Fin 3) rfl _

/-- The operands unchanged, every semaphore at zero. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c 0).trans (final_x m ρ c), (h.1 c 1).trans (final_w m ρ c)⟩, h.2⟩) (run m ρ)

end Cert.KernelIdeal.Hand
-- ==== Proof.KernelIdeal.Sum.lean ====
/- What a device's result is, before quantisation, over the real numbers: an entry is the sum, over all sixteen devices,
   of the device's rows times the device's columns. The sum is followed along the ring: a message of a channel carries
   the products of the devices it has passed. -/
module

public import proofs.«01_k».proof.Proof.KernelIdeal.Loops
public import Idealize.ShloMosaic.Lib.MatmulPlain
public import Idealize.ShloMosaic.Lib.ValueIdx
public import Idealize.ShloMosaic.Lib.Pipeline.Value

@[expose] public section

noncomputable section

namespace Cert.KernelIdeal.Hand

open Idealize.ShloMosaic Idealize.SL.Sem Idealize.ShloMosaic.ValueIdx Cert.KernelIdeal Cert.KernelIdeal.Gen
open scoped BigOperators

/-! ## One block product -/

/-- The printed product of two blocks, read at an entry. -/
theorem prod_at (x : Vec Ideal S256x256 .bf16) (w : Vec Ideal S256x1024 .bf16) (i : Fin 256) (j : Fin 1024) :
    (matmul dot_S256x256_S256x1024_S256x1024_1_0_0_1_n_n none (shapeCast S256x256 x shapeCasts_S256x256_S256x256 : FVec Ideal S256x256 .bf16)
      (shapeCast S256x1024 w shapeCasts_S256x1024_S256x1024 : FVec Ideal S256x1024 .bf16) (constant S256x1024 .f32 0x00000000#32)) (ix2 i j)
      = ∑ k : Fin 256, x (ix2 i k) * w (ix2 k j) := by
  rw [shapeCast_self, shapeCast_self]
  refine (Ideal.matmul_plain_apply (M := 256) (K := 256) (N := 1024) none x w (constant S256x1024 .f32 0x00000000#32) i j).trans ?_
  rw [show (constant (F := Ideal) S256x1024 .f32 0x00000000#32) (ix2 i j) = 0 from Ideal.ofBits_zero_f32, zero_add]

theorem msg0_at (x : Vec Ideal S256x256 .bf16) (w : Vec Ideal S256x1024 .bf16) (i : Fin 256) (j : Fin 1024) :
    msg0 x w (ix2 i j) = ∑ k : Fin 256, x (ix2 i k) * w (ix2 k j) := by
  unfold msg0 k0_pay1
  rw [shapeCast_self]
  exact prod_at x w i j

theorem msgS_at (x : Vec Ideal S256x256 .bf16) (w r : Vec Ideal _ .bf16) (i : Fin 256) (j : Fin 1024) :
    msgS x w r (ix2 i j) = (∑ k : Fin 256, x (ix2 i k) * w (ix2 k j)) + r (ix2 i j) := by
  unfold msgS k0_pay10
  rw [shapeCast_self, ← prod_at x w i j]
  rfl

theorem yOf_at (x : Vec Ideal S256x256 .bf16) (w r : Vec Ideal _ .bf16) (i : Fin 256) (j : Fin 1024) :
    yOf x w r (ix2 i j) = (∑ k : Fin 256, x (ix2 i k) * w (ix2 k j)) + r (ix2 i j) := by
  unfold yOf k0_pay177
  rw [← prod_at x w i j]
  rfl

/-! ## Which rows and columns -/

/-- Row `i` of the `b`-th block of rows, and column `j` of the channel's block of columns. -/
def rowAt (b : Dev nD) (i : Fin 256) : Fin 4096 := ⟨256 * b.val + i.val, by have : b.val < 16 := b.isLt; omega⟩
def colAt (k : Ch) (j : Fin 1024) : Fin 8192 := ⟨k.lo + j.val, by cases k <;> (simp only [Ch.lo]; omega)⟩

/-- The block of rows a channel works on at a hop. -/
def blk (k : Ch) (c : Dev nD) (h : ℕ) : Dev nD :=
  match k.left with
  | false => ⟨(c.val + 31 - h) % 16, Nat.mod_lt _ (by decide)⟩
  | true => ⟨(c.val + h + 1) % 16, Nat.mod_lt _ (by decide)⟩

theorem peer_val (k : Ch) (c : Dev nD) : (peer k c).val = match k.left with | false => (c.val + 15) % 16 | true => (c.val + 1) % 16 := by
  unfold peer
  cases k.left
  · exact k0_dev1_eq c
  · exact k0_dev2_eq c

theorem blk_peer (k : Ch) (c : Dev nD) (h : ℕ) (hh : h < 15) : blk k (peer k c) h = blk k c (h + 1) := by
  have hp := peer_val k c
  have hc : c.val < 16 := c.isLt
  unfold blk
  cases hk : k.left <;> simp only [hk] at hp ⊢ <;> refine Fin.ext ?_ <;> simp only [hp] <;> omega

theorem blk_last (k : Ch) (c : Dev nD) : blk k (peer k c) 14 = c := by
  have hp := peer_val k c
  have hc : c.val < 16 := c.isLt
  unfold blk
  cases hk : k.left <;> simp only [hk] at hp ⊢ <;> refine Fin.ext ?_ <;> simp only [hp] <;> omega

variable (xs : XS Ideal) (ws : WS Ideal)

/-- The operands and the result before quantisation, as matrices of numbers. -/
def xE (c : Dev nD) : S4096x256.Idx → EReal := xs c
def wE (c : Dev nD) : S256x8192.Idx → EReal := ws c
def yE (c : Dev nD) : S256x8192.Idx → EReal := Y xs ws c

theorem xOff_eq (k : Ch) (c : Dev nD) (r : Fin 15) : xOff k c r = ![256 * (blk k c r.val).val, 0] := by
  unfold xOff blk
  cases k.left
  · exact k0_off1_eq c r
  · exact k0_off2_eq c r

theorem xv_at (k : Ch) (c : Dev nD) (r : Fin 15) (i j : Fin 256) :
    xv xs k c r (ix2 i j) = xE xs c (ix2 (rowAt (blk k c r.val) i) j) := by
  have h0 : (((xRect k c r).toLoadRect.idx (ix2 i j) : S4096x256.Idx) 0).val = xOff k c r 0 + 1 * i.val := rfl
  have h1 : (((xRect k c r).toLoadRect.idx (ix2 i j) : S4096x256.Idx) 1).val = xOff k c r 1 + 1 * j.val := rfl
  rw [xOff_eq] at h0 h1
  refine congrArg (xE xs c) (show ((xRect k c r).toLoadRect.idx (ix2 i j) : S4096x256.Idx) = _ from
    funext fun a => Fin.ext ?_)
  fin_cases a
  · refine h0.trans ?_
    show 256 * _ + 1 * i.val = 256 * _ + i.val
    omega
  · refine h1.trans ?_
    show 0 + 1 * j.val = j.val
    omega

theorem xf_at (c : Dev nD) (i j : Fin 256) : xf xs c (ix2 i j) = xE xs c (ix2 (rowAt c i) j) := by
  have h0 : (((xFin c).toLoadRect.idx (ix2 i j) : S4096x256.Idx) 0).val = k0_off3 c 0 + 1 * i.val := rfl
  have h1 : (((xFin c).toLoadRect.idx (ix2 i j) : S4096x256.Idx) 1).val = k0_off3 c 1 + 1 * j.val := rfl
  rw [k0_off3_eq] at h0 h1
  refine congrArg (xE xs c) (show ((xFin c).toLoadRect.idx (ix2 i j) : S4096x256.Idx) = _ from
    funext fun a => Fin.ext ?_)
  fin_cases a
  · refine h0.trans ?_
    show 256 * _ + 1 * i.val = 256 * _ + i.val
    omega
  · refine h1.trans ?_
    show 0 + 1 * j.val = j.val
    omega

theorem wv_at (k : Ch) (c : Dev nD) (i : Fin 256) (j : Fin 1024) :
    wv ws k c (ix2 i j) = wE ws c (ix2 i (colAt k j)) := by
  have h := idx_cols k (ix2 i j)
  refine congrArg (wE ws c) (show ((wRect k).toLoadRect.idx (ix2 i j) : S256x8192.Idx) = _ from
    funext fun a => Fin.ext ?_)
  fin_cases a
  · exact h.1
  · exact h.2

/-! ## The sum round the ring -/

/-- Device `e`'s part of an entry of the product. -/
def part' (e : Dev nD) (R : Fin 4096) (q : Fin 8192) : EReal :=
  ∑ k : Fin 256, xE xs e (ix2 R k) * wE ws e (ix2 k q)

/-- A message holds the parts of the devices it has passed. -/
theorem A_at (k : Ch) (i : Fin 256) (j : Fin 1024) : ∀ (h : ℕ), h < 15 → ∀ c : Dev nD,
    A xs ws k h c (ix2 i j) = ∑ s ∈ Finset.range (h + 1), part' xs ws ((peer k)^[s] c) (rowAt (blk k c h) i) (colAt k j)
  | 0, _, c => by
    rw [Finset.sum_range_one]
    show msg0 _ _ _ = _
    rw [msg0_at]
    refine Finset.sum_congr rfl fun l _ => ?_
    rw [xv_at, wv_at]; rfl
  | h + 1, hh, c => by
    have ih := A_at k i j h (by omega) (peer k c)
    rw [blk_peer k c h (by omega)] at ih
    rw [Finset.sum_range_succ']
    refine Eq.trans ?_ (add_comm _ _)
    show msgS (F := Ideal) _ _ _ _ = _
    rw [msgS_at, ih]
    refine congrArg₂ (· + ·) (Finset.sum_congr rfl fun l _ => ?_) rfl
    rw [xv_at, wv_at, show (Fin.ofNat 15 (h + 1)).val = h + 1 from Nat.mod_eq_of_lt hh]; rfl

theorem peer_iter (k : Ch) (c : Dev nD) : ∀ s : ℕ,
    ((peer k)^[s] c).val = match k.left with | false => (c.val + 15 * s) % 16 | true => (c.val + s) % 16
  | 0 => by
    have hc : c.val < 16 := c.isLt
    cases k.left <;> simp only [Function.iterate_zero, id] <;> omega
  | s + 1 => by
    have h := peer_iter k c s
    have h' := peer_val k ((peer k)^[s] c)
    rw [Function.iterate_succ_apply']
    cases hk : k.left <;> simp only [hk] at h h' ⊢ <;> omega

theorem ring_sum (k : Ch) (c : Dev nD) (f : Dev nD → EReal) : ∑ s ∈ Finset.range 16, f ((peer k)^[s] c) = ∑ e : Dev nD, f e := by
  rw [Finset.sum_range (n := 16)]
  refine Fintype.sum_bijective (fun s : Fin 16 => (peer k)^[s.val] c) ?_ _ _ fun _ => rfl
  refine (Finite.injective_iff_bijective (α := Fin 16)).mp fun s t h => ?_
  have hs := peer_iter k c s.val
  have ht := peer_iter k c t.val
  have hc : c.val < 16 := c.isLt
  have h' : ((peer k)^[s.val] c).val = ((peer k)^[t.val] c).val := congrArg Fin.val h
  refine Fin.ext ?_
  cases hk : k.left <;> simp only [hk] at hs ht <;> omega

/-- A block of a device's result before quantisation. -/
theorem yb_at (k : Ch) (c : Dev nD) (i : Fin 256) (j : Fin 1024) :
    yb xs ws k c (ix2 i j) = ∑ e : Dev nD, part' xs ws e (rowAt c i) (colAt k j) := by
  have h := A_at xs ws k i j 14 (by decide) (peer k c)
  rw [blk_last] at h
  unfold yb
  rw [yOf_at, h, ← ring_sum k c, Finset.sum_range_succ' _ 15]
  refine Eq.trans ?_ (add_comm _ _)
  refine congrArg₂ (· + ·) (Finset.sum_congr rfl fun l _ => ?_) rfl
  rw [xf_at, wv_at]; rfl

/-- The device's result before quantisation. -/
theorem Y_at (c : Dev nD) (i : Fin 256) (q : Fin 8192) :
    yE xs ws c (ix2 i q) = ∑ e : Dev nD, part' xs ws e (rowAt c i) q := by
  have key : ∀ k : Ch, q.val / 1024 = k.lo / 1024 →
      yb xs ws k c (loc (ix2 i q)) = ∑ e : Dev nD, part' xs ws e (rowAt c i) q := fun k hk => by
    have hlo : 1024 * (k.lo / 1024) = k.lo := by cases k <;> rfl
    have e1 : loc (ix2 i q) = ix2 i (⟨q.val % 1024, Nat.mod_lt _ (by decide)⟩ : Fin 1024) := by
      funext a; fin_cases a <;> rfl
    have e2 : colAt k ⟨q.val % 1024, Nat.mod_lt _ (by decide)⟩ = q := Fin.ext (by
      show k.lo + q.val % 1024 = q.val
      omega)
    rw [e1, yb_at, e2]
  have hq : q.val / 1024 < 8 := by omega
  show yb xs ws (match q.val / 1024 with | 0 => .r0 | 1 => .r1 | 2 => .r2 | 3 => .r3 | 4 => .l0 | 5 => .l1 | 6 => .l2 | _ => .l3) c _ = _
  generalize hv : q.val / 1024 = v at hq
  rcases (show v = 0 ∨ v = 1 ∨ v = 2 ∨ v = 3 ∨ v = 4 ∨ v = 5 ∨ v = 6 ∨ v = 7 by omega) with
    rfl | rfl | rfl | rfl | rfl | rfl | rfl | rfl
  exacts [key .r0 hv, key .r1 hv, key .r2 hv, key .r3 hv, key .l0 hv, key .l1 hv, key .l2 hv, key .l3 hv]

end Cert.KernelIdeal.Hand
-- ==== Proof.KernelIdeal.Max.lean ====
/- The kernel's last step over the real numbers: the greatest absolute value of the whole result, which every device
   reads out of its table, and the quantisation by it. -/
module

public import proofs.«01_k».proof.Proof.KernelIdeal.Sum
public import proofs.«01_k».proof.Proof.KernelIdeal.Body

@[expose] public section

noncomputable section

namespace Cert.KernelIdeal.Hand

open Idealize.ShloMosaic Idealize.SL.Sem Idealize.ShloMosaic.ValueIdx Cert.KernelIdeal Cert.KernelIdeal.Gen

/-- The quantisation of a number by a greatest absolute value. -/
def qz (g y : Ideal .f32) : Ideal .f32 :=
  FloatOps.mulf (FloatOps.minimumf (FloatOps.ofBits .f32 0x42FE0000#32) (FloatOps.maximumf (FloatOps.ofBits .f32 0xC2FE0000#32)
    (FloatOps.roundeven (FloatOps.divf y (FloatOps.divf g (FloatOps.ofBits .f32 0x42FE0000#32))))))
    (FloatOps.divf g (FloatOps.ofBits .f32 0x42FE0000#32))

/-- The absolute value. -/
def ab (y : EReal) : EReal := max y (-y)

theorem ab_nonneg (y : EReal) : 0 ≤ ab y := by
  unfold ab
  rcases le_total 0 y with h | h
  · exact le_max_of_le_left h
  · exact le_max_of_le_right (EReal.neg_nonneg.mpr h)

theorem ninf : (FloatOps.ofBits .f32 0xFF800000#32 : Ideal .f32) = (⊥ : EReal) := by
  show Ideal.ofBits .f32 0xFF800000#32 = _
  simp [Ideal.ofBits, Ideal.ieee]

/-- A reduction by the greatest to one element: an upper bound of it is one of every source element. -/
theorem red_le {s t : Shape} {axes : List (Fin s.rank)} (src : FVec Ideal s .f32) (h : s.Reduces axes t) (hφ) (hacc)
    (ht : ∀ a, t.size a = 1) (j : t.Idx) (b : EReal) :
    (multiReduction .maximumf axes t src 0xFF800000#32 h hφ hacc j : EReal) ≤ b ↔ ∀ i, (src i : EReal) ≤ b := by
  rw [multiReduction_maximumf_eq_fold, ninf]
  refine (Finset.fold_max_le (β := EReal) b).trans ?_
  constructor
  · intro hh i
    refine hh.2 i (Finset.mem_filter.mpr ⟨Finset.mem_univ _, funext fun a => Fin.ext ?_⟩)
    have h1 := ht a
    have h2 := (h.drop i a).isLt
    have h3 := (j a).isLt
    omega
  · exact fun hh => ⟨bot_le, fun i _ => hh i⟩

theorem cast_le {s t : Shape} (x : s.Idx → EReal) (h : s.ShapeCasts t) (b : EReal) :
    (∀ i, shapeCast t x h i ≤ b) ↔ ∀ i, x i ≤ b :=
  (Shape.reshapeEquiv h).forall_congr fun _ => Iff.rfl

/-- The running maximum after a block. -/
theorem mx_le (p : Ideal .f32) (x : Vec Ideal S256x256 .bf16) (w r : Vec Ideal S256x1024 .bf16) (b : EReal) :
    (mx p x w r : EReal) ≤ b ↔ (p : EReal) ≤ b ∧ ∀ i, ab (yOf x w r i) ≤ b := by
  unfold mx k0_pay180
  refine (max_le_iff (α := EReal)).trans (and_congr Iff.rfl ?_)
  refine (red_le _ _ (.inl rfl) rfl (fun a => by fin_cases a; rfl) _ b).trans ?_
  exact cast_le (fun i => ab (yOf x w r i)) _ b

variable (xs : XS Ideal) (ws : WS Ideal)

theorem pm_le (c : Dev nD) (b : EReal) : ∀ n, (pm xs ws c n : EReal) ≤ b ↔ 0 ≤ b ∧ ∀ i < n, ∀ z, ab (yb xs ws (Ch.at' i) c z) ≤ b
  | 0 => by
    have h : (pm xs ws c 0 : EReal) = 0 := Ideal.ofBits_zero_f32
    rw [h]
    exact ⟨fun hb => ⟨hb, fun i hi => absurd hi (Nat.not_lt_zero i)⟩, fun hb => hb.1⟩
  | n + 1 => by
    refine (mx_le _ _ _ _ b).trans ?_
    rw [pm_le c b n]
    constructor
    · rintro ⟨⟨h0, h1⟩, h2⟩
      refine ⟨h0, fun i hi => ?_⟩
      rcases Nat.lt_succ_iff_lt_or_eq.mp hi with h | rfl
      · exact h1 i h
      · exact h2
    · exact fun h => ⟨⟨h.1, fun i hi => h.2 i (by omega)⟩, h.2 n (by omega)⟩

theorem Pm_le (c : Dev nD) (b : EReal) : (Pm xs ws c : EReal) ≤ b ↔ 0 ≤ b ∧ ∀ i q, ab (yE xs ws c (ix2 i q)) ≤ b := by
  refine (pm_le xs ws c b 8).trans (and_congr Iff.rfl ?_)
  constructor
  · intro h i q
    have h' : ∀ k : Ch, ∀ z, ab (yb xs ws k c z) ≤ b := fun k z => by
      have := h k.ix (ix_lt k) z
      rwa [at_ix] at this
    exact h' _ (loc (ix2 i q))
  · intro h i _ z
    obtain ⟨z0, z1, rfl⟩ : ∃ z0 : Fin 256, ∃ z1 : Fin 1024, z = ix2 z0 z1 := ⟨z 0, z 1, eq_ix2 z⟩
    have := h z0 (colAt (Ch.at' i) z1)
    rw [Y_at, ← yb_at] at this
    exact this

/-- The greatest absolute value, as a device reads it out of its table. -/
def gm (a : Vec Ideal S16x8x128 .f32) : Ideal .f32 :=
  extractAt ![0, 0, 0, 0] (shapeCast S1x1x1x1 (multiReduction .maximumf [1, 2, 3] S1
    (shapeCast S1x16x8x128 a shapeCasts_S16x8x128_S1x16x8x128) 0xFF800000#32 reduces_S1x16x8x128_S1 (.inl rfl) rfl)
    shapeCasts_S1_S1x1x1x1) inpos_S1x1x1x1_p0_0_0_0

theorem gm_le (b : EReal) : (gm (Tab (Pm xs ws)) : EReal) ≤ b ↔ 0 ≤ b ∧ ∀ c i q, ab (yE xs ws c (ix2 i q)) ≤ b := by
  unfold gm
  refine (red_le _ _ (.inl rfl) rfl (fun a => by fin_cases a; rfl) _ b).trans ?_
  refine (cast_le (fun i : S16x8x128.Idx => (Pm xs ws ⟨(i 0).val, (i 0).isLt⟩ : EReal)) _ b).trans ?_
  constructor
  · intro h
    have h' : ∀ c : Dev nD, (Pm xs ws c : EReal) ≤ b := fun c => h (ix3 (c : Fin 16) (0 : Fin 8) (0 : Fin 128))
    exact ⟨((Pm_le xs ws 0 b).mp (h' 0)).1, fun c => ((Pm_le xs ws c b).mp (h' c)).2⟩
  · exact fun h i => (Pm_le xs ws _ b).mpr ⟨h.1, h.2 _⟩

/-- A device's result, entry by entry. -/
theorem out_at (c : Dev nD) (i : S256x8192.Idx) :
    (outAt xs ws c : S256x8192.Idx → EReal) i = qz (gm (Tab (Pm xs ws))) (yE xs ws c i) := by
  show (k0_pay194 (F := Ideal) (Tab (Pm xs ws)) (Y xs ws c)) i = _
  unfold k0_pay194
  rw [shapeCast_self]
  rfl

end Cert.KernelIdeal.Hand
-- ==== Proof.KernelIdeal.Final.lean ====
/- What the kernel leaves in its result, and that its operands' windows are the whole operands. -/
module

public import proofs.«01_k».proof.Proof.KernelIdeal.Launch
public import proofs.«01_k».proof.Proof.KernelIdeal.Max

@[expose] public section

noncomputable section

namespace Cert.KernelIdeal.Hand

open Idealize.ShloMosaic Idealize.ShloMosaic.TcCoe Idealize.SL.Sem Idealize.ShloMosaic.Pipeline Idealize.ShloMosaic.ValueIdx
open Cert.KernelIdeal Cert.KernelIdeal.Gen

variable {F : FTy → Type} [FloatOps F]
variable (m : (ℓ : Loc nD τ sig) → Buf (Elt F) ℓ) (ρ : Dev nD → PrngReg)

/-- A window that is the whole array reads the array. -/
theorem read_x (f : main_arg0.ty.Contents (Elt F)) : (win0_0.blk (0 : Fin 1)).view.read (Elt F) f = f := by
  funext i
  refine congrArg f (funext fun a => Fin.ext ?_)
  fin_cases a
  · show 0 * 4096 + 1 * (i 0).val = (i 0).val; omega
  · show 0 * 256 + 1 * (i 1).val = (i 1).val; omega

theorem read_w (f : main_arg1.ty.Contents (Elt F)) : (win0_1.blk (0 : Fin 1)).view.read (Elt F) f = f := by
  funext i
  refine congrArg f (funext fun a => Fin.ext ?_)
  fin_cases a
  · show 0 * 256 + 1 * (i 0).val = (i 0).val; omega
  · show 0 * 8192 + 1 * (i 1).val = (i 1).val; omega

theorem read_o (f : main_v1.ty.Contents (Elt F)) : (win0_2.blk (0 : Fin 1)).view.read (Elt F) f = f := by
  funext i
  refine congrArg f (funext fun a => Fin.ext ?_)
  fin_cases a
  · show 0 * 256 + 1 * (i 0).val = (i 0).val; omega
  · show 0 * 8192 + 1 * (i 1).val = (i 1).val; omega

theorem xin_eq (c : Dev nD) : xin m c = m ((c : Thread nD τ).loc main_arg0) := read_x _
theorem win_eq (c : Dev nD) : win m c = m ((c : Thread nD τ).loc main_arg1) := read_w _

/-- The result array at the end. -/
theorem final_o (c : Dev nD) : finalA m ρ c (2 : Fin 3) = outAt (xin m) (win m) c := by
  have h := (dats m ρ 0 c).arrAt_succ (2 : Fin 3) pt
  rw [if_pos (flush0_2 pt)] at h
  have h' : (win0_2.blk (0 : Fin 1)).view.read (Elt F) (finalA m ρ c (2 : Fin 3)) = outAt (xin m) (win m) c := by
    refine (congrArg _ h).trans ?_
    exact View.read_write_univ (v := (win0_2.blk (0 : Fin 1)).view) (Val := Elt F) _ _
  exact (read_o _).symm.trans h'

/-- The kernel's run: the result as computed, the operands unchanged. -/
theorem run_out : θ_run defs (onTc (τ := τ) (main (F := F))) ⟨m, fun _ => 0, ρ⟩ (fun r => ∀ c : Dev nD,
      r.2.mem ((c.tc : Thread nD τ).loc main_v1) = outAt (xin m) (win m) c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c 2).trans (final_o m ρ c), (h.1 c 0).trans (final_x m ρ c), (h.1 c 1).trans (final_w m ρ c)⟩)
    (run m ρ)

end Cert.KernelIdeal.Hand
-- ==== Proof.KernelIdeal.Value.lean ====
/- The kernel's result is the reference's, block by block, over the real numbers. The reference's product sums over 4096
   positions, which are the sixteen devices' 256 positions each; its greatest absolute value is over the whole product,
   which is the sixteen devices' blocks; the quantisation is the same function of the two. -/
module

public import proofs.«01_k».proof.Proof.KernelIdeal.Final
public import proofs.«01_k».proof.Proof.Gen.ReferenceIdeal.Run
public import Idealize.ShloMosaic.Lib.StackMember
public import Idealize.ShloMosaic.Lib.IdealHost
public import Idealize.ShloMosaic.Lib.Layout

@[expose] public section

noncomputable section

namespace Cert.KernelIdeal.Hand

open Idealize.ShloMosaic Idealize.ShloMosaic.TcCoe Idealize.SL.Sem Idealize.ShloMosaic.ValueIdx
open scoped BigOperators

/-- The shapes of the whole operands and of the whole result. -/
abbrev SX : Shape := ⟨2, ![4096, 4096]⟩
abbrev SW : Shape := ⟨2, ![4096, 8192]⟩

/-! ## The reference -/

section Ref

open Cert.ReferenceIdeal Cert.ReferenceIdeal.Gen

variable (X : FVec Ideal SX .bf16) (W : FVec Ideal SW .bf16)

/-- The reference's product, its greatest absolute value, and its result. -/
def rD : FVec Ideal SW .f32 := Host.dotGeneral dot_S4096x4096_S4096x8192_S4096x8192_1_0_0_1_n_n none X W
def rG : FVec Ideal S_ .f32 :=
  Host.reduce FloatOps.maximumf (Host.absf (rD X W)) (constant S_ .f32 0xFF800000#32) reducesTo_S4096x8192_S_d0_1 h_S_
def rO : FVec Ideal SW .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (rD X W) (broadcastInDim S4096x8192 ![] bcast_S_S4096x8192 (Host.divf (rG X W) (constant S_ .f32 0x42FE0000#32)))))))
    (broadcastInDim S4096x8192 ![] bcast_S_S4096x8192 (Host.divf (rG X W) (constant S_ .f32 0x42FE0000#32)))

theorem rD_at (R : Fin 4096) (q : Fin 8192) : rD X W (ix2 R q) = ∑ k : Fin 4096, X (ix2 R k) * W (ix2 k q) :=
  StackMember.dotGeneral_plain_apply (m := 4096) (n := 8192) (k := 4096) none X W R q

theorem rG_le (b : EReal) : (rG X W ix0 : EReal) ≤ b ↔ ∀ R q, ab (rD X W (ix2 R q)) ≤ b := by
  unfold rG
  rw [Host.reduce_eq_fold]
  refine (Finset.fold_max_le (β := EReal) b).trans ?_
  constructor
  · exact fun h R q => h.2 (ix2 R q) (Finset.mem_filter.mpr ⟨Finset.mem_univ _, funext fun a => a.elim0⟩)
  · refine fun h => ⟨?_, fun i _ => ?_⟩
    · show (FloatOps.ofBits .f32 0xFF800000#32 : Ideal .f32) ≤ b
      rw [ninf]; exact bot_le
    · obtain ⟨R, q, rfl⟩ : ∃ R : Fin 4096, ∃ q : Fin 8192, i = ix2 R q := ⟨i 0, i 1, eq_ix2 i⟩
      exact h R q

theorem rO_at (j : SW.Idx) : rO X W j = qz (rG X W ix0) (rD X W j) := by
  have h : ∀ v : FVec Ideal S_ .f32, broadcastInDim S4096x8192 ![] bcast_S_S4096x8192 v j = v ix0 := fun v =>
    broadcastInDim_scalar_apply _ v j
  show FloatOps.mulf (FloatOps.minimumf (broadcastInDim (s := S_) S4096x8192 ![] bcast_S_S4096x8192 _ j)
    (FloatOps.maximumf (broadcastInDim (s := S_) S4096x8192 ![] bcast_S_S4096x8192 _ j)
      (FloatOps.roundeven (FloatOps.divf (rD X W j) (broadcastInDim (s := S_) S4096x8192 ![] bcast_S_S4096x8192 _ j)))))
    (broadcastInDim (s := S_) S4096x8192 ![] bcast_S_S4096x8192 _ j) = _
  rw [h, h, h]
  rfl

end Ref

/-! ## The kernel against it -/

section

open Cert.KernelIdeal Cert.KernelIdeal.Gen

variable (m : (ℓ : Loc nD τ sig) → Buf (Elt Ideal) ℓ)
variable (X : FVec Ideal SX .bf16) (W : FVec Ideal SW .bf16)

/-- The devices hold the blocks of the two operands: columns of the left, rows of the right. -/
def Held : Prop := ∀ c : Dev nD,
  m ((c.tc : Thread nD τ).loc main_arg0) = Layout.block ⟨2, ![4096, 256]⟩ ⟨2, ![4096, 4096]⟩ 1 16 c X
    ∧ m ((c.tc : Thread nD τ).loc main_arg1) = Layout.block ⟨2, ![256, 8192]⟩ ⟨2, ![4096, 8192]⟩ 0 16 c W

variable {m X W} (H : Held m X W)
include H

theorem x_at (e : Dev nD) (R : Fin 4096) (k : Fin 256) : xE (xin m) e (ix2 R k) = X (ix2 R (rowAt e k)) := by
  have h : xE (xin m) e = Layout.block ⟨2, ![4096, 256]⟩ ⟨2, ![4096, 4096]⟩ 1 16 e X := (xin_eq m e).trans (H e).1
  rw [h, Layout.block_apply]
  refine congrArg X (funext fun a => Fin.ext ?_)
  fin_cases a
  · rfl
  · show e.val * 256 + k.val = 256 * e.val + k.val; omega

theorem w_at (e : Dev nD) (k : Fin 256) (q : Fin 8192) : wE (win m) e (ix2 k q) = W (ix2 (rowAt e k) q) := by
  have h : wE (win m) e = Layout.block ⟨2, ![256, 8192]⟩ ⟨2, ![4096, 8192]⟩ 0 16 e W := (win_eq m e).trans (H e).2
  rw [h, Layout.block_apply]
  refine congrArg W (funext fun a => Fin.ext ?_)
  fin_cases a
  · show e.val * 256 + k.val = 256 * e.val + k.val; omega
  · rfl

omit H in
/-- The 4096 positions are the devices' 256 each. -/
theorem sum_rows (f : Fin 4096 → EReal) : ∑ e : Dev nD, ∑ k : Fin 256, f (rowAt e k) = ∑ K : Fin 4096, f K := by
  refine (Fintype.sum_prod_type' (fun (e : Fin 16) (k : Fin 256) => f (rowAt e k))).symm.trans ?_
  refine Fintype.sum_equiv (finProdFinEquiv (m := 16) (n := 256)) _ _ fun p => congrArg f (Fin.ext ?_)
  show 256 * p.1.val + p.2.val = p.2.val + 256 * p.1.val
  omega

/-- A device's result before quantisation is its rows of the reference's product. -/
theorem y_at (c : Dev nD) (i : Fin 256) (q : Fin 8192) : yE (xin m) (win m) c (ix2 i q) = rD X W (ix2 (rowAt c i) q) := by
  rw [Y_at, rD_at, ← sum_rows]
  refine Finset.sum_congr rfl fun e _ => Finset.sum_congr rfl fun k _ => ?_
  rw [x_at H, w_at H]

/-- The greatest absolute value is the reference's. -/
theorem g_eq : (gm (Tab (Pm (xin m) (win m))) : EReal) = rG X W ix0 := by
  refine eq_of_forall_ge_iff fun b => ?_
  rw [gm_le, rG_le]
  constructor
  · intro h R q
    have hR : R = rowAt (⟨R.val / 256, by have := R.isLt; show _ < 16; omega⟩ : Dev nD) ⟨R.val % 256, Nat.mod_lt _ (by decide)⟩ :=
      Fin.ext (by show R.val = 256 * (R.val / 256) + R.val % 256; omega)
    rw [hR, ← y_at H]
    exact h.2 _ _ _
  · refine fun h => ⟨(ab_nonneg _).trans (h 0 0), fun c i q => ?_⟩
    rw [y_at H]
    exact h _ _

/-- A device's result is its block of rows of the reference's. -/
theorem out_eq (c : Dev nD) : outAt (xin m) (win m) c = Layout.block ⟨2, ![256, 8192]⟩ ⟨2, ![4096, 8192]⟩ 0 16 c (rO X W) := by
  funext i
  obtain ⟨r, q, rfl⟩ : ∃ r : Fin 256, ∃ q : Fin 8192, (i : S256x8192.Idx) = ix2 r q := ⟨i 0, i 1, eq_ix2 i⟩
  refine (out_at (xin m) (win m) c (ix2 r q)).trans ?_
  refine Eq.trans ?_ (Layout.block_apply (S := ⟨2, ![256, 8192]⟩) (T := ⟨2, ![4096, 8192]⟩) (a := 0) (k := 16) c (rO X W) (by decide) (ix2 r q)).symm
  rw [rO_at, y_at H, g_eq H]
  have e : ∀ z : SW.Idx, (z 0).val = c.val * 256 + r.val → (z 1).val = q.val → ix2 (rowAt c r) q = z := fun z h0 h1 => by
    refine funext fun a => Fin.ext ?_
    fin_cases a
    · refine Eq.trans ?_ h0.symm
      show 256 * c.val + r.val = c.val * 256 + r.val
      omega
    · exact h1.symm
  exact congrArg (fun z => qz (rG X W ix0) (rD X W z)) (e _ rfl rfl)

end

end Cert.KernelIdeal.Hand
-- ==== Proof.lean ====
/- The certificate's claim: the kernel, its ideal reading and the reference run without fault on every device, leave
   their arguments unchanged and every semaphore counter at zero; and over the real numbers the kernel's result is the
   reference's, device `c` holding block `c` of its rows. The kernel's run is `Cert.Kernel.Hand.quiescent`, that of the
   ideal reading `Cert.KernelIdeal.Hand.quiescent`: one text, generic in the floats. The values are equal by
   `Cert.KernelIdeal.Hand.out_eq`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Launch
public import proofs.«01_k».proof.Proof.KernelIdeal.Value
public import proofs.«01_k».proof.Proof.Kernel.Launch
public import Idealize.ShloMosaic.Adequacy
public import Idealize.ShloMosaic.Init

@[expose] public section

noncomputable section

namespace Cert.Proof

open Idealize.ShloMosaic Idealize.SL.Sem Cert.Kernel

/-- The reference runs, its arguments unchanged; it has no semaphore. -/
theorem reference_quiescent : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference compute one result: the kernel's devices hold the blocks of rows of the reference's. -/
theorem values : Cert.algebraic_KernelIdeal_ReferenceIdeal (hKernelIdeal := Cert.KernelIdeal.Gen.facts)
    (hReferenceIdeal := Cert.ReferenceIdeal.Gen.facts) := fun m g m' g' _ H =>
  ⟨_, (θ_run Cert.KernelIdeal.defs _ _).mono
      (fun _ h c => ⟨(h c).1.trans (Cert.KernelIdeal.Hand.out_eq H c), (h c).2⟩) (Cert.KernelIdeal.Hand.run_out m g),
    (θ_run Cert.ReferenceIdeal.defs _ _).mono (fun _ h => h 0) (Cert.ReferenceIdeal.Value.run (F := Ideal) m' g')⟩

theorem claim : Cert.Claim := ⟨Cert.Kernel.Gen.facts, Cert.KernelIdeal.Gen.facts, Cert.ReferenceIdeal.Gen.facts,
  fun m g _ => Cert.Kernel.Hand.quiescent m g,
  fun m g _ => Cert.KernelIdeal.Hand.quiescent m g,
  reference_quiescent,
  trivial,
  values⟩

end Cert.Proof

end
